-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_usable_KernelIdeal [hPre_usable_KernelIdeal : Cert.Pre_usable_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_usable_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_usable_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_usable_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_usable_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_usable_ReferenceIdeal [hPre_usable_ReferenceIdeal : Cert.Pre_usable_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_usable_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_usable_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_usable_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_usable_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_usable_KernelIdeal [hKernelIdeal : Cert.KernelIdeal.Facts] [hPre_usable_KernelIdeal : Cert.Pre_usable_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_usable_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_usable_ReferenceIdeal [hReferenceIdeal : Cert.ReferenceIdeal.Facts] [hPre_usable_ReferenceIdeal : Cert.Pre_usable_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_usable_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "neg" .f32 0xF149F2CA#32 ⊥

def algebraic_KernelIdeal_ReferenceIdeal_pre_usable_KernelIdeal [hKernelIdeal : Cert.KernelIdeal.Facts] [hReferenceIdeal : Cert.ReferenceIdeal.Facts] [hPre_usable_KernelIdeal : Cert.Pre_usable_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_usable_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![64, 16, 8, 64]⟩ ⟨4, ![128, 16, 8, 64]⟩ (Layout.meshBlock [2, 2] ![[0], [], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![64, 16, 8, 64]⟩ ⟨4, ![128, 16, 8, 64]⟩ (Layout.meshBlock [2, 2] ![[0], [], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_usable_KernelIdeal : Cert.Pre_usable_KernelIdeal.Facts) (hPre_usable_ReferenceIdeal : Cert.Pre_usable_ReferenceIdeal.Facts),
    quiescent_Kernel (hKernel := hKernel)
    ∧ quiescent_KernelIdeal (hKernelIdeal := hKernelIdeal)
    ∧ quiescent_KernelIdeal_pre_usable_KernelIdeal (hKernelIdeal := hKernelIdeal) (hPre_usable_KernelIdeal := hPre_usable_KernelIdeal)
    ∧ quiescent_ReferenceIdeal (hReferenceIdeal := hReferenceIdeal)
    ∧ quiescent_ReferenceIdeal_pre_usable_ReferenceIdeal (hReferenceIdeal := hReferenceIdeal) (hPre_usable_ReferenceIdeal := hPre_usable_ReferenceIdeal)
    ∧ preserves_Kernel_KernelIdeal
    ∧ algebraic_KernelIdeal_ReferenceIdeal_pre_usable_KernelIdeal (hKernelIdeal := hKernelIdeal) (hReferenceIdeal := hReferenceIdeal) (hPre_usable_KernelIdeal := hPre_usable_KernelIdeal)
-- ==== Pre_usable_KernelIdeal.lean ====
abbrev S8x1x8x64 : Shape := ⟨4, ![8, 1, 8, 64]⟩
abbrev S64x16x8x64 : Shape := ⟨4, ![64, 16, 8, 64]⟩
abbrev S8x64 : Shape := ⟨2, ![8, 64]⟩
abbrev S8 : Shape := ⟨1, ![8]⟩
abbrev S64 : Shape := ⟨1, ![64]⟩
abbrev S1x64 : Shape := ⟨2, ![1, 64]⟩
abbrev S8x1 : Shape := ⟨2, ![8, 1]⟩
abbrev S_ : Shape := ⟨0, ![]⟩

class Facts : Prop where
  bcast_S64_S1x64_1 : S64.BroadcastsInDim S1x64 (![1] : Fin 1 → Fin S1x64.rank)
  bcast_S8_S8x1_0 : S8.BroadcastsInDim S8x1 (![0] : Fin 1 → Fin S8x1.rank)
  bcast_S1x64_S8x64_0_1 : S1x64.BroadcastsInDim S8x64 (![0, 1] : Fin 2 → Fin S8x64.rank)
  bcast_S8x1_S8x64_0_1 : S8x1.BroadcastsInDim S8x64 (![0, 1] : Fin 2 → Fin S8x64.rank)
  bitsLt_bf16_f32 : FTy.bits .bf16 < FTy.bits .f32
  bcast_S_S8x1x8x64 : S_.BroadcastsInDim S8x1x8x64 (![] : Fin 0 → Fin S8x1x8x64.rank)
  bcast_S_S64x16x8x64 : S_.BroadcastsInDim S64x16x8x64 (![] : Fin 0 → Fin S64x16x8x64.rank)
  bcast_S_S8x64 : S_.BroadcastsInDim S8x64 (![] : Fin 0 → Fin S8x64.rank)
  bcast_S_S8 : S_.BroadcastsInDim S8 (![] : Fin 0 → Fin S8.rank)

variable [Facts]

def fn_part1 {F : FTy → Type} [FloatOps F] (main_arg4 : IVec S8 32) (main_v9 : IVec S8x1x8x64 1) (main_v13 : IVec S64x16x8x64 1) (main_v14 : IVec S8x64 1) (main_v19 : IVec S8x64 1) : IVec S8x1x8x64 1 × IVec S64x16x8x64 1 × IVec S8x64 1 × IVec S8 1 :=
  let main_v20 : IVec S8x64 1 := ori main_v14 main_v19
  let main_c_2 : IVec S_ 32 := constantI S_ 32 1#32
  let main_v21 : IVec S8 32 := broadcastInDim S8 ![] bcast_S_S8 main_c_2
  let main_v22 : IVec S8 1 := cmpi .sge main_arg4 main_v21
  (main_v9, main_v13, main_v20, main_v22)

def fn {F : FTy → Type} [FloatOps F] (main_arg0 : FVec F S8x1x8x64 .bf16) (main_arg1 : FVec F S64x16x8x64 .bf16) (main_arg2 : FVec F S64x16x8x64 .bf16) (main_arg3 : IVec S8x64 32) (main_arg4 : IVec S8 32) : IVec S8x1x8x64 1 × IVec S64x16x8x64 1 × IVec S8x64 1 × IVec S8 1 :=
  let main_v0 : IVec S64 32 := iotaInDim S64 32 0
  let main_v1 : IVec S1x64 32 := broadcastInDim S1x64 ![1] bcast_S64_S1x64_1 main_v0
  let main_v2 : IVec S8x1 32 := broadcastInDim S8x1 ![0] bcast_S8_S8x1_0 main_arg4
  let main_v3 : IVec S8x64 32 := broadcastInDim S8x64 ![0, 1] bcast_S1x64_S8x64_0_1 main_v1
  let main_v4 : IVec S8x64 32 := broadcastInDim S8x64 ![0, 1] bcast_S8x1_S8x64_0_1 main_v2
  let main_v5 : IVec S8x64 1 := cmpi .slt main_v3 main_v4
  let main_v6 : FVec F S8x1x8x64 .f32 := (extf .f32 · bitsLt_bf16_f32) main_arg0
  let main_v7 : FVec F S8x1x8x64 .f32 := Host.absf main_v6
  let main_cst : FVec F S_ .f32 := constant S_ .f32 0x7F800000#32
  let main_v8 : FVec F S8x1x8x64 .f32 := broadcastInDim S8x1x8x64 ![] bcast_S_S8x1x8x64 main_cst
  let main_v9 : IVec S8x1x8x64 1 := cmpf .olt main_v7 main_v8
  let main_v10 : FVec F S64x16x8x64 .f32 := (extf .f32 · bitsLt_bf16_f32) main_arg1
  let main_v11 : FVec F S64x16x8x64 .f32 := Host.absf main_v10
  let main_cst_0 : FVec F S_ .f32 := constant S_ .f32 0x7F800000#32
  let main_v12 : FVec F S64x16x8x64 .f32 := broadcastInDim S64x16x8x64 ![] bcast_S_S64x16x8x64 main_cst_0
  let main_v13 : IVec S64x16x8x64 1 := cmpf .olt main_v11 main_v12
  let main_v14 : IVec S8x64 1 := noti main_v5
  let main_c : IVec S_ 32 := constantI S_ 32 0#32
  let main_v15 : IVec S8x64 32 := broadcastInDim S8x64 ![] bcast_S_S8x64 main_c
  let main_v16 : IVec S8x64 1 := cmpi .sge main_arg3 main_v15
  let main_c_1 : IVec S_ 32 := constantI S_ 32 128#32
  let main_v17 : IVec S8x64 32 := broadcastInDim S8x64 ![] bcast_S_S8x64 main_c_1
  let main_v18 : IVec S8x64 1 := cmpi .slt main_arg3 main_v17
  let main_v19 : IVec S8x64 1 := andi main_v16 main_v18
  fn_part1 (F := F) main_arg4 main_v9 main_v13 main_v14 main_v19
-- ==== Pre_usable_ReferenceIdeal.lean ====
abbrev S8x1x8x64 : Shape := ⟨4, ![8, 1, 8, 64]⟩
abbrev S128x16x8x64 : Shape := ⟨4, ![128, 16, 8, 64]⟩
abbrev S8x64 : Shape := ⟨2, ![8, 64]⟩
abbrev S8 : Shape := ⟨1, ![8]⟩
abbrev S64 : Shape := ⟨1, ![64]⟩
abbrev S1x64 : Shape := ⟨2, ![1, 64]⟩
abbrev S8x1 : Shape := ⟨2, ![8, 1]⟩
abbrev S_ : Shape := ⟨0, ![]⟩

class Facts : Prop where
  bcast_S64_S1x64_1 : S64.BroadcastsInDim S1x64 (![1] : Fin 1 → Fin S1x64.rank)
  bcast_S8_S8x1_0 : S8.BroadcastsInDim S8x1 (![0] : Fin 1 → Fin S8x1.rank)
  bcast_S1x64_S8x64_0_1 : S1x64.BroadcastsInDim S8x64 (![0, 1] : Fin 2 → Fin S8x64.rank)
  bcast_S8x1_S8x64_0_1 : S8x1.BroadcastsInDim S8x64 (![0, 1] : Fin 2 → Fin S8x64.rank)
  bitsLt_bf16_f32 : FTy.bits .bf16 < FTy.bits .f32
  bcast_S_S8x1x8x64 : S_.BroadcastsInDim S8x1x8x64 (![] : Fin 0 → Fin S8x1x8x64.rank)
  bcast_S_S128x16x8x64 : S_.BroadcastsInDim S128x16x8x64 (![] : Fin 0 → Fin S128x16x8x64.rank)
  bcast_S_S8x64 : S_.BroadcastsInDim S8x64 (![] : Fin 0 → Fin S8x64.rank)
  bcast_S_S8 : S_.BroadcastsInDim S8 (![] : Fin 0 → Fin S8.rank)

variable [Facts]

def fn_part1 {F : FTy → Type} [FloatOps F] (main_arg4 : IVec S8 32) (main_v9 : IVec S8x1x8x64 1) (main_v13 : IVec S128x16x8x64 1) (main_v14 : IVec S8x64 1) (main_v19 : IVec S8x64 1) : IVec S8x1x8x64 1 × IVec S128x16x8x64 1 × IVec S8x64 1 × IVec S8 1 :=
  let main_v20 : IVec S8x64 1 := ori main_v14 main_v19
  let main_c_2 : IVec S_ 32 := constantI S_ 32 1#32
  let main_v21 : IVec S8 32 := broadcastInDim S8 ![] bcast_S_S8 main_c_2
  let main_v22 : IVec S8 1 := cmpi .sge main_arg4 main_v21
  (main_v9, main_v13, main_v20, main_v22)

def fn {F : FTy → Type} [FloatOps F] (main_arg0 : FVec F S8x1x8x64 .bf16) (main_arg1 : FVec F S128x16x8x64 .bf16) (main_arg2 : FVec F S128x16x8x64 .bf16) (main_arg3 : IVec S8x64 32) (main_arg4 : IVec S8 32) : IVec S8x1x8x64 1 × IVec S128x16x8x64 1 × IVec S8x64 1 × IVec S8 1 :=
  let main_v0 : IVec S64 32 := iotaInDim S64 32 0
  let main_v1 : IVec S1x64 32 := broadcastInDim S1x64 ![1] bcast_S64_S1x64_1 main_v0
  let main_v2 : IVec S8x1 32 := broadcastInDim S8x1 ![0] bcast_S8_S8x1_0 main_arg4
  let main_v3 : IVec S8x64 32 := broadcastInDim S8x64 ![0, 1] bcast_S1x64_S8x64_0_1 main_v1
  let main_v4 : IVec S8x64 32 := broadcastInDim S8x64 ![0, 1] bcast_S8x1_S8x64_0_1 main_v2
  let main_v5 : IVec S8x64 1 := cmpi .slt main_v3 main_v4
  let main_v6 : FVec F S8x1x8x64 .f32 := (extf .f32 · bitsLt_bf16_f32) main_arg0
  let main_v7 : FVec F S8x1x8x64 .f32 := Host.absf main_v6
  let main_cst : FVec F S_ .f32 := constant S_ .f32 0x7F800000#32
  let main_v8 : FVec F S8x1x8x64 .f32 := broadcastInDim S8x1x8x64 ![] bcast_S_S8x1x8x64 main_cst
  let main_v9 : IVec S8x1x8x64 1 := cmpf .olt main_v7 main_v8
  let main_v10 : FVec F S128x16x8x64 .f32 := (extf .f32 · bitsLt_bf16_f32) main_arg1
  let main_v11 : FVec F S128x16x8x64 .f32 := Host.absf main_v10
  let main_cst_0 : FVec F S_ .f32 := constant S_ .f32 0x7F800000#32
  let main_v12 : FVec F S128x16x8x64 .f32 := broadcastInDim S128x16x8x64 ![] bcast_S_S128x16x8x64 main_cst_0
  let main_v13 : IVec S128x16x8x64 1 := cmpf .olt main_v11 main_v12
  let main_v14 : IVec S8x64 1 := noti main_v5
  let main_c : IVec S_ 32 := constantI S_ 32 0#32
  let main_v15 : IVec S8x64 32 := broadcastInDim S8x64 ![] bcast_S_S8x64 main_c
  let main_v16 : IVec S8x64 1 := cmpi .sge main_arg3 main_v15
  let main_c_1 : IVec S_ 32 := constantI S_ 32 128#32
  let main_v17 : IVec S8x64 32 := broadcastInDim S8x64 ![] bcast_S_S8x64 main_c_1
  let main_v18 : IVec S8x64 1 := cmpi .slt main_arg3 main_v17
  let main_v19 : IVec S8x64 1 := andi main_v16 main_v18
  fn_part1 (F := F) main_arg4 main_v9 main_v13 main_v14 main_v19
-- ==== Kernel.lean ====
abbrev S8x1x8x64 : Shape := ⟨4, ![8, 1, 8, 64]⟩
abbrev S64x16x8x64 : Shape := ⟨4, ![64, 16, 8, 64]⟩
abbrev S8x64 : Shape := ⟨2, ![8, 64]⟩
abbrev S8 : Shape := ⟨1, ![8]⟩
abbrev S1024x512 : Shape := ⟨2, ![1024, 512]⟩
abbrev S2x8x8x65 : Shape := ⟨4, ![2, 8, 8, 65]⟩
abbrev S64x8 : Shape := ⟨2, ![64, 8]⟩
abbrev S2 : Shape := ⟨1, ![2]⟩
abbrev S_ : Shape := ⟨0, ![]⟩
abbrev S64x1 : Shape := ⟨2, ![64, 1]⟩
abbrev S1x64 : Shape := ⟨2, ![1, 64]⟩
abbrev S1 : Shape := ⟨1, ![1]⟩
abbrev S64x64 : Shape := ⟨2, ![64, 64]⟩
abbrev S64 : Shape := ⟨1, ![64]⟩
abbrev S64x1024 : Shape := ⟨2, ![64, 1024]⟩
abbrev S1024x8 : Shape := ⟨2, ![1024, 8]⟩
abbrev S1024x64 : Shape := ⟨2, ![1024, 64]⟩
abbrev S8x1x1x64 : Shape := ⟨4, ![8, 1, 1, 64]⟩
abbrev S1024x1 : Shape := ⟨2, ![1024, 1]⟩
abbrev S1024x513 : Shape := ⟨2, ![1024, 513]⟩
abbrev S1024x32 : Shape := ⟨2, ![1024, 32]⟩
abbrev S32x513 : Shape := ⟨2, ![32, 513]⟩
abbrev S1x1x8x64 : Shape := ⟨4, ![1, 1, 8, 64]⟩
abbrev S8x1 : Shape := ⟨2, ![8, 1]⟩
abbrev S1x1x8x1 : Shape := ⟨4, ![1, 1, 8, 1]⟩
abbrev S1x4x8x65 : Shape := ⟨4, ![1, 4, 8, 65]⟩
abbrev S4x8x65 : Shape := ⟨3, ![4, 8, 65]⟩
abbrev S1x1x8x65 : Shape := ⟨4, ![1, 1, 8, 65]⟩
abbrev S8x65 : Shape := ⟨2, ![8, 65]⟩

abbrev nBuf : Space → Nat
  | .hbm => 8
  | .vmem => 7
  | .smem => 1
  | _ => 0

abbrev bufTy : (tb : Table) → Fin (tcTables nBuf tb) → BufTy
  | .hbm, ⟨0, _⟩ => ⟨S8x1x8x64, .bf16⟩
  | .hbm, ⟨1, _⟩ => ⟨S64x16x8x64, .bf16⟩
  | .hbm, ⟨2, _⟩ => ⟨S64x16x8x64, .bf16⟩
  | .hbm, ⟨3, _⟩ => ⟨S8x64, .i32⟩
  | .hbm, ⟨4, _⟩ => ⟨S8, .i32⟩
  | .hbm, ⟨5, _⟩ => ⟨S1024x512, .bf16⟩
  | .hbm, ⟨6, _⟩ => ⟨S1024x512, .bf16⟩
  | .hbm, ⟨7, _⟩ => ⟨S8x1x8x64, .f32⟩
  | .local _ .vmem, ⟨0, _⟩ => ⟨S8x1x8x64, .bf16⟩
  | .local _ .vmem, ⟨1, _⟩ => ⟨S1024x512, .bf16⟩
  | .local _ .vmem, ⟨2, _⟩ => ⟨S1024x512, .bf16⟩
  | .local _ .vmem, ⟨3, _⟩ => ⟨S8x64, .i32⟩
  | .local _ .vmem, ⟨4, _⟩ => ⟨S8x1x8x64, .f32⟩
  | .local _ .vmem, ⟨5, _⟩ => ⟨S2x8x8x65, .f32⟩
  | .local _ .vmem, ⟨6, _⟩ => ⟨S64x8, .f32⟩
  | .local _ .smem, ⟨0, _⟩ => ⟨S8, .i32⟩
  | _, _ => ⟨S8x1x8x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg5_0 : Ref sig .tc := ⟨.vmem, 4, rfl⟩
abbrev cc0_scratch0 : Ref sig .tc := ⟨.vmem, 5, rfl⟩
abbrev cc0_scratch1 : Ref sig .tc := ⟨.vmem, 6, rfl⟩
abbrev cc0_stg4_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4 : BitVec 32 := 2#32
  let v8 : BitVec 32 := Scalar.muli v6 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_148 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_147 : BitVec 32 := 2#32
  let v274 : BitVec 32 := Scalar.muli v6 c2_i32_147
  let v275 : BitVec 32 := Scalar.addi c0_i32_148 v274
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_149 : BitVec 32 := 1#32
  let v276 : BitVec 32 := Scalar.muli v5 c1_i32_149
  let v277 : BitVec 32 := Scalar.addi v275 v276
  v277.toNat
def k0_dev3 (d0 : Dev nD) : Nat :=
  let c0_i32_194 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_193 : BitVec 32 := 2#32
  let v321 : BitVec 32 := Scalar.muli v6 c2_i32_193
  let v322 : BitVec 32 := Scalar.addi c0_i32_194 v321
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_195 : BitVec 32 := 1#32
  let v323 : BitVec 32 := Scalar.muli v5 c1_i32_195
  let v324 : BitVec 32 := Scalar.addi v322 v323
  v324.toNat
abbrev stage0_0 : Fin 1 → Memref sig .tc .vmem S8x1x8x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x64 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S8 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1x8x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "neg" => some ⊥
  | _ => none
-- ==== ReferenceIdeal.lean ====
abbrev S8x1x8x64 : Shape := ⟨4, ![8, 1, 8, 64]⟩
abbrev S128x16x8x64 : Shape := ⟨4, ![128, 16, 8, 64]⟩
abbrev S8x64 : Shape := ⟨2, ![8, 64]⟩
abbrev S8 : Shape := ⟨1, ![8]⟩
abbrev S_ : Shape := ⟨0, ![]⟩
abbrev S8x64x1 : Shape := ⟨3, ![8, 64, 1]⟩
abbrev S8x64x16x8x64 : Shape := ⟨5, ![8, 64, 16, 8, 64]⟩
abbrev S64 : Shape := ⟨1, ![64]⟩
abbrev S1x64 : Shape := ⟨2, ![1, 64]⟩
abbrev S8x1 : Shape := ⟨2, ![8, 1]⟩
abbrev S8x1x64x1 : Shape := ⟨4, ![8, 1, 64, 1]⟩
abbrev S8x8x64 : Shape := ⟨3, ![8, 8, 64]⟩
abbrev S8x8x64x16 : Shape := ⟨4, ![8, 8, 64, 16]⟩
abbrev S8x8 : Shape := ⟨2, ![8, 8]⟩
abbrev S8x8x1x1 : Shape := ⟨4, ![8, 8, 1, 1]⟩

abbrev nBuf : Space → Nat
  | .hbm => 56
  | .vmem => 0
  | .smem => 0
  | _ => 0

abbrev bufTy : (tb : Table) → Fin (tcTables nBuf tb) → BufTy
  | .hbm, ⟨0, _⟩ => ⟨S8x1x8x64, .bf16⟩
  | .hbm, ⟨1, _⟩ => ⟨S128x16x8x64, .bf16⟩
  | .hbm, ⟨2, _⟩ => ⟨S128x16x8x64, .bf16⟩
  | .hbm, ⟨3, _⟩ => ⟨S8x64, .i32⟩
  | .hbm, ⟨4, _⟩ => ⟨S8, .i32⟩
  | .hbm, ⟨5, _⟩ => ⟨S128x16x8x64, .f32⟩
  | .hbm, ⟨6, _⟩ => ⟨S_, .i32⟩
  | .hbm, ⟨7, _⟩ => ⟨S8x64, .i32⟩
  | .hbm, ⟨8, _⟩ => ⟨S8x64, .i1⟩
  | .hbm, ⟨9, _⟩ => ⟨S_, .i32⟩
  | .hbm, ⟨10, _⟩ => ⟨S8x64, .i32⟩
  | .hbm, ⟨11, _⟩ => ⟨S8x64, .i32⟩
  | .hbm, ⟨12, _⟩ => ⟨S8x64, .i32⟩
  | .hbm, ⟨13, _⟩ => ⟨S8x64x1, .i32⟩
  | .hbm, ⟨14, _⟩ => ⟨S8x64x16x8x64, .f32⟩
  | .hbm, ⟨15, _⟩ => ⟨S128x16x8x64, .f32⟩
  | .hbm, ⟨16, _⟩ => ⟨S_, .i32⟩
  | .hbm, ⟨17, _⟩ => ⟨S8x64, .i32⟩
  | .hbm, ⟨18, _⟩ => ⟨S8x64, .i1⟩
  | .hbm, ⟨19, _⟩ => ⟨S_, .i32⟩
  | .hbm, ⟨20, _⟩ => ⟨S8x64, .i32⟩
  | .hbm, ⟨21, _⟩ => ⟨S8x64, .i32⟩
  | .hbm, ⟨22, _⟩ => ⟨S8x64, .i32⟩
  | .hbm, ⟨23, _⟩ => ⟨S8x64x1, .i32⟩
  | .hbm, ⟨24, _⟩ => ⟨S8x64x16x8x64, .f32⟩
  | .hbm, ⟨25, _⟩ => ⟨S64, .i32⟩
  | .hbm, ⟨26, _⟩ => ⟨S1x64, .i32⟩
  | .hbm, ⟨27, _⟩ => ⟨S8x1, .i32⟩
  | .hbm, ⟨28, _⟩ => ⟨S8x64, .i32⟩
  | .hbm, ⟨29, _⟩ => ⟨S8x64, .i32⟩
  | .hbm, ⟨30, _⟩ => ⟨S8x64, .i1⟩
  | .hbm, ⟨31, _⟩ => ⟨S8x1x64x1, .i1⟩
  | .hbm, ⟨32, _⟩ => ⟨S8x8x64, .bf16⟩
  | .hbm, ⟨33, _⟩ => ⟨S8x8x64, .f32⟩
  | .hbm, ⟨34, _⟩ => ⟨S8x8x64x16, .f32⟩
  | .hbm, ⟨35, _⟩ => ⟨S_, .f32⟩
  | .hbm, ⟨36, _⟩ => ⟨S8x8x64x16, .f32⟩
  | .hbm, ⟨37, _⟩ => ⟨S8x8x64x16, .f32⟩
  | .hbm, ⟨38, _⟩ => ⟨S_, .f32⟩
  | .hbm, ⟨39, _⟩ => ⟨S_, .f32⟩
  | .hbm, ⟨40, _⟩ => ⟨S8x8x64x16, .i1⟩
  | .hbm, ⟨41, _⟩ => ⟨S8x8x64x16, .f32⟩
  | .hbm, ⟨42, _⟩ => ⟨S8x8x64x16, .f32⟩
  | .hbm, ⟨43, _⟩ => ⟨S_, .f32⟩
  | .hbm, ⟨44, _⟩ => ⟨S8x8, .f32⟩
  | .hbm, ⟨45, _⟩ => ⟨S8x8x1x1, .f32⟩
  | .hbm, ⟨46, _⟩ => ⟨S8x8x64x16, .f32⟩
  | .hbm, ⟨47, _⟩ => ⟨S8x8x64x16, .f32⟩
  | .hbm, ⟨48, _⟩ => ⟨S8x8x64x16, .f32⟩
  | .hbm, ⟨49, _⟩ => ⟨S_, .f32⟩
  | .hbm, ⟨50, _⟩ => ⟨S8x8, .f32⟩
  | .hbm, ⟨51, _⟩ => ⟨S8x8x1x1, .f32⟩
  | .hbm, ⟨52, _⟩ => ⟨S8x8x64x16, .f32⟩
  | .hbm, ⟨53, _⟩ => ⟨S8x8x64x16, .f32⟩
  | .hbm, ⟨54, _⟩ => ⟨S8x8x64, .f32⟩
  | .hbm, ⟨55, _⟩ => ⟨S8x1x8x64, .f32⟩
  | _, _ => ⟨S8x1x8x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== Proof.Attention.lean ====
module

public import Idealize.ShloMosaic.PureOps.Ideal

/-!
# Attention over pages, for one head of one sequence

The algebra of the claim, with no program in it. A sequence has 64 slots, of which some are in use (`ok`), and each names a
page (`pg`) of 16 tokens; `a` is the scaled dot product of every token of the cache with the query. The quotient of two sums
over the slots in use is what the softmax computes (`softmax_eq`), whatever is subtracted from the exponents, and the sums
over the slots are sums over all pages of the cache, weighted by how many slots name the page (`pages_eq`).
-/

@[expose] public section

noncomputable section

namespace Cert.Attention

open Idealize.ShloMosaic

/-- A finite nonnegative factor goes into a sum. -/
theorem mul_sum {ι : Type} (s : Finset ι) (c : ℝ) (hc : 0 ≤ c) (f : ι → EReal) : (c : EReal) * ∑ i ∈ s, f i = ∑ i ∈ s, (c : EReal) * f i := by
  classical
  induction s using Finset.induction_on with
  | empty => simp
  | insert i s hi ih =>
    rw [Finset.sum_insert hi, Finset.sum_insert hi, EReal.left_distrib_of_nonneg_of_ne_top (by exact_mod_cast hc) (EReal.coe_ne_top c), ih]

/-- A sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- `n` times a nonnegative real, times `y`, is `n` copies of the product. -/
theorem nsmul_mul (n : ℕ) (c : ℝ) (hc : 0 ≤ c) (y : EReal) : (((n : ℝ) * c : ℝ) : EReal) * y = n • ((c : EReal) * y) := by
  induction n with
  | zero => simp
  | succ n ih =>
    have h : (((n + 1 : ℕ) : ℝ) * c : ℝ) = (n : ℝ) * c + c := by push_cast; ring
    rw [h, EReal.coe_add, EReal.right_distrib_of_nonneg (by exact_mod_cast mul_nonneg n.cast_nonneg hc) (by exact_mod_cast hc), ih, succ_nsmul]

/-- A count, as an extended real. -/
theorem sum_indicator (c : Fin 64 → Prop) [DecidablePred c] : (∑ s, if c s then (1 : EReal) else 0) = (((Finset.univ.filter c).card : ℝ) : EReal) := by
  rw [← Finset.sum_filter, Finset.sum_const, ← EReal.coe_one, EReal.nsmul_eq_mul]
  simp

/-- The exponential of `r` plus the logarithm of a count is the count times the exponential of `r`: one term for every slot
    counted, and nothing when the count is zero. -/
theorem weight_term (c : Fin 64 → Prop) [DecidablePred c] (r : ℝ) (y : EReal) :
    Ideal.exp ((r : EReal) + if 0 < (∑ s, if c s then (1 : EReal) else 0) then Ideal.log (∑ s, if c s then (1 : EReal) else 0) else ⊥) * y
      = ∑ s, if c s then (Real.exp r : EReal) * y else 0 := by
  rw [sum_indicator, ← Finset.sum_filter, Finset.sum_const]
  generalize (Finset.univ.filter c).card = n
  rcases Nat.eq_zero_or_pos n with rfl | hn
  · simp
  · have hp : (0 : ℝ) < n := by exact_mod_cast hn
    rw [if_pos (by exact_mod_cast hp), Ideal.log_coe, if_neg (not_le.mpr hp), ← EReal.coe_add, Ideal.exp_coe, Real.exp_add, Real.exp_log hp,
      mul_comm (Real.exp r), nsmul_mul n _ (Real.exp_pos r).le]

section

variable (a : Fin 128 → Fin 16 → ℝ) (ok : Fin 64 → Prop) [DecidablePred ok] (pg : Fin 64 → Fin 128)

/-- The sum over the tokens of the slots in use of the exponential of the dot product times `v`. -/
def total (v : Fin 128 → Fin 16 → EReal) : EReal := ∑ s, ∑ t, if ok s then (Real.exp (a (pg s) t) : EReal) * v (pg s) t else 0

/-- The sum over the slots in use is a sum over all pages, each weighted by the number of slots that name it. -/
theorem pages_eq (v : Fin 128 → Fin 16 → EReal) (c : Fin 128 → Fin 64 → Prop) [∀ p, DecidablePred (c p)]
    (hc : ∀ p s, c p s ↔ ok s ∧ pg s = p) :
    (∑ p, ∑ t, Ideal.exp ((a p t : EReal) + if 0 < (∑ s, if c p s then (1 : EReal) else 0)
        then Ideal.log (∑ s, if c p s then (1 : EReal) else 0) else ⊥) * v p t) = total a ok pg v := by
  simp only [weight_term]
  have h : ∀ p, (∑ t, ∑ s, if c p s then (Real.exp (a p t) : EReal) * v p t else 0)
      = ∑ s, ∑ t, if c p s then (Real.exp (a p t) : EReal) * v p t else 0 := fun p => Finset.sum_comm
  simp only [h]
  rw [Finset.sum_comm]
  unfold total
  refine Finset.sum_congr rfl fun s _ => ?_
  rw [Finset.sum_comm]
  refine Finset.sum_congr rfl fun t _ => ?_
  rw [Finset.sum_eq_single (pg s)]
  · by_cases o : ok s
    · rw [if_pos ((hc _ _).mpr ⟨o, rfl⟩), if_pos o]
    · rw [if_neg fun x => o ((hc _ _).mp x).1, if_neg o]
  · intro p _ hp
    exact if_neg fun x => hp ((hc _ _).mp x).2.symm
  · exact fun x => absurd (Finset.mem_univ _) x

/-- The softmax over the tokens of the slots in use, times the values, is the quotient of the two sums: the real `m` that is
    subtracted from every exponent cancels. -/
theorem softmax_eq (m : ℝ) (hs : ∃ s, ok s) (v : Fin 128 → Fin 16 → EReal) :
    (∑ s, ∑ t, Ideal.div (Ideal.exp ((if ok s then (a (pg s) t : EReal) else ⊥) - (m : EReal)))
        (∑ s, ∑ t : Fin 16, Ideal.exp ((if ok s then (a (pg s) t : EReal) else ⊥) - (m : EReal))) * v (pg s) t)
      = Ideal.div (total a ok pg v) (total a ok pg fun _ _ => 1) := by
  let e : Fin 64 → Fin 16 → ℝ := fun s t => if ok s then Real.exp (a (pg s) t) else 0
  let L : ℝ := ∑ s, ∑ t, e s t
  have e0 : ∀ s t, 0 ≤ e s t := fun s t => by
    show 0 ≤ if ok s then Real.exp (a (pg s) t) else 0
    split
    · exact (Real.exp_pos _).le
    · exact le_rfl
  have hL : 0 < L := by
    obtain ⟨s, o⟩ := hs
    refine lt_of_lt_of_le ?_ (Finset.single_le_sum (f := fun s => ∑ t, e s t) (fun s _ => Finset.sum_nonneg fun t _ => e0 s t) (Finset.mem_univ s))
    refine lt_of_lt_of_le ?_ (Finset.single_le_sum (f := fun t => e s t) (fun t _ => e0 s t) (Finset.mem_univ 0))
    show 0 < if ok s then Real.exp (a (pg s) 0) else 0
    rw [if_pos o]
    exact Real.exp_pos _
  have hx : ∀ s t, Ideal.exp ((if ok s then (a (pg s) t : EReal) else ⊥) - (m : EReal)) = ((Real.exp (-m) * e s t : ℝ) : EReal) := fun s t => by
    show _ = ((Real.exp (-m) * (if ok s then Real.exp (a (pg s) t) else 0) : ℝ) : EReal)
    by_cases o : ok s
    · rw [if_pos o, if_pos o, ← EReal.coe_sub, Ideal.exp_coe, sub_eq_add_neg, Real.exp_add, mul_comm]
    · rw [if_neg o, if_neg o, EReal.bot_sub, Ideal.exp_bot, mul_zero, EReal.coe_zero]
  have hd : (∑ s, ∑ t, ((Real.exp (-m) * e s t : ℝ) : EReal)) = ((Real.exp (-m) * L : ℝ) : EReal) := by
    simp only [L, Finset.mul_sum, coe_sum]
  have hv : ∀ v : Fin 128 → Fin 16 → EReal, total a ok pg v = ∑ s, ∑ t, (e s t : EReal) * v (pg s) t := fun v => by
    refine Finset.sum_congr rfl fun s _ => Finset.sum_congr rfl fun t _ => ?_
    show _ = ((if ok s then Real.exp (a (pg s) t) else 0 : ℝ) : EReal) * _
    by_cases o : ok s
    · rw [if_pos o, if_pos o]
    · rw [if_neg o, if_neg o, EReal.coe_zero, zero_mul]
  have h1 : total a ok pg (fun _ _ => 1) = (L : EReal) := by
    rw [hv]
    simp only [mul_one, L, coe_sum]
  have hm : Real.exp (-m) ≠ 0 := (Real.exp_pos _).ne'
  simp only [hx]
  rw [hd, h1, hv, Ideal.div_coe hL.ne', mul_comm (∑ s, ∑ t, (e s t : EReal) * v (pg s) t), mul_sum _ _ (by positivity)]
  refine Finset.sum_congr rfl fun s _ => ?_
  rw [mul_sum _ _ (by positivity)]
  refine Finset.sum_congr rfl fun t _ => ?_
  rw [Ideal.div_coe (mul_ne_zero hm hL.ne'), ← mul_assoc, ← EReal.coe_mul, ← EReal.coe_mul]
  congr 2
  field_simp

end

end Cert.Attention

end
-- ==== Proof.KernelIdealPartial.lean ====
module

public import proofs.«01_k».proof.Proof.Gen.KernelIdeal.Skeleton
public import Idealize.ShloMosaic.Lib.PointwiseCore

/-!
# What one device computes from its blocks

The values of the kernel on one device, as functions of what its operand blocks hold: the weight of every local page
for every sequence, the probabilities, the two halves of the attention sums and their normaliser, and the result made
from the sums of the two devices that hold the pages. Everything is stated over the kernel's own payloads.
-/

@[expose] public section

set_option maxRecDepth 16384

noncomputable section

namespace Cert.KernelIdeal.Partial

open Cert.KernelIdeal Cert.KernelIdeal.Gen
open Idealize.ShloMosaic

variable {F : FTy → Type} [FloatOps F] [Named F]

/-- What the five operand blocks of one device hold: the queries, its keys and values (one row per token, one block of
    columns per head), the block table and the lengths. -/
structure Blocks (F : FTy → Type) where
  q : Vec F S8x1x8x64 .bf16
  k : Vec F S1024x512 .bf16
  v : Vec F S1024x512 .bf16
  bt : Vec F S8x64 .i32
  ln : Vec F S8 .i32

/-- Sums for every head and sequence: 64 columns and the normaliser. -/
abbrev S8x8x65 : Shape := ⟨3, ![8, 8, 65]⟩

variable (d : Dev nD) (B : Blocks F)

/-- Row `b` of the block table. -/
def tableRow (b : Fin 8) : Vec F S1x64 .i32 := fun i => B.bt (ix2 b (i 1))

/-- How often each of the device's pages occurs among the valid slots of each sequence. -/
def weights : Vec F S64x8 .f32 := fun i => k0_pay3 d (tableRow B (i 1)) (B.ln (ix1 (i 1))) (ix2 (i 0) 0)

/-- The keys of head `h`. -/
def keyHead (h : Fin 8) : Vec F S1024x64 .bf16 := fun i => B.k (ix2 (i 0) ⟨64 * h.val + (i 1).val, by have := h.isLt; have : (i 1).val < 64 := (i 1).isLt; omega⟩)

/-- The queries of head `h`. -/
def queryHead (h : Fin 8) : Vec F S8x1x1x64 .bf16 := fun i => B.q (ix4 (i 0) (i 1) h (i 3))

/-- The dot products of head `h`'s keys and queries. -/
def score (h : Fin 8) : FVec F S1024x8 .f32 := k0_pay17 (keyHead B h) (queryHead B h)

/-- The logarithm of every token's weight, for every head and sequence; `neg` where the weight is zero. -/
def logWeights : FVec F S1024x64 .f32 :=
  k0_pay16 (iota .tc S64x1024 32 [0] iota_S64x1024_d0_w32) (iota .tc S64x1024 32 [1] iota_S64x1024_d1_w32) 16#32 k0_pay14 k0_pay15
    (Scalar.cmpi .sgt 16#32 0#32) (weights d B)

/-- The weighted exponentials: one row per token, one column per head and sequence. -/
def probs : FVec F S1024x64 .f32 :=
  k0_pay24 (logWeights d B) (score B 0) (score B 1) (score B 2) (score B 3) (score B 4) (score B 5) (score B 6) (keyHead B 7) (queryHead B 7)

/-- Half `g` of the sums over the device's tokens: of the values' columns, and (last column) of the exponentials. -/
def half (g : Fin 2) : FVec F S32x513 .f32 :=
  if g = 0 then
    k0_pay26 (logWeights d B) (score B 0) (score B 1) (score B 2) (score B 3) (score B 4) (score B 5) (score B 6) (keyHead B 7) (queryHead B 7) B.v
  else k0_pay36 (probs d B) (k0_pay25 B.v)

/-- The device's own sums for head `i 0`, sequence `i 1`: 64 numerators, then the normaliser. -/
def own : Vec F S8x8x65 .f32 := fun i =>
  half d B ⟨(i 0).val / 4, by have : (i 0).val < 8 := (i 0).isLt; omega⟩
    (ix2 ⟨8 * ((i 0).val % 4) + (i 1).val, by have : (i 1).val < 8 := (i 1).isLt; show _ < 32; omega⟩
      ⟨if (i 2).val < 64 then 64 * (i 0).val + (i 2).val else 512, by have : (i 0).val < 8 := (i 0).isLt; show _ < 513; split <;> omega⟩)

/-- Head `h` of an array of sums, as one load gives it. -/
def slab (a : Vec F S8x8x65 .f32) (h : Fin 8) : Vec F S1x1x8x65 .f32 := fun i => a (ix3 h (i 2) (i 3))

/-- The result made from two arrays of sums. -/
def combine (a b : Vec F S8x8x65 .f32) : Vec F S8x1x8x64 .f32 := fun i =>
  k0_pay46 (slab a (i 2)) (slab b (i 2)) (ix4 (i 0) 0 0 (i 3))

/-- Two arrays of sums, one after the other. -/
def pairOf (a b : Vec F S8x8x65 .f32) : Vec F S2x8x8x65 .f32 := fun i =>
  if (i 0).val = 0 then a (ix3 (i 1) (i 2) (i 3)) else b (ix3 (i 1) (i 2) (i 3))

end Cert.KernelIdeal.Partial

end
-- ==== Proof.KernelIdealValue.lean ====
module
public import proofs.«01_k».proof.Proof.KernelIdealPartial
public import Idealize.ShloMosaic.Lib.Pointwise
/-!
# What one device computes, over the extended reals

The kernel's values of `Proof.KernelIdealPartial` read at an index: the weight of a page as a count, the probabilities as
weighted exponentials, the sums over the device's tokens, and the quotient of the sums of two devices.
-/

@[expose] public section
set_option maxRecDepth 16384
noncomputable section
namespace Cert.KernelIdeal.Value
open Cert.KernelIdeal Cert.KernelIdeal.Gen Cert.KernelIdeal.Partial
open Idealize.ShloMosaic

/-- The quotient by 16 of a word, as the kernel works it out. -/
def pageOf (x : BitVec 32) : BitVec 32 :=
  Scalar.select (IntOp.andi (IntOp.cmpi .ne (IntOp.subi (BitVec.setWidth 32 (IntOp.cmpi .sgt x 0#32))
        (BitVec.setWidth 32 (IntOp.cmpi .slt x 0#32)))
        (Scalar.subi (Scalar.extui (Scalar.cmpi .sgt 16#32 0#32)) (Scalar.extui (Scalar.cmpi .slt 16#32 0#32))))
        (IntOp.cmpi .ne (IntOp.remsi .vector x 16#32) 0#32))
      (IntOp.subi (IntOp.divsi .vector x 16#32) 1#32)
      (IntOp.divsi .vector x 16#32)
/-- The row's number. -/
theorem iota_row (x : Fin 64) (n : Fin 1024) : iota .tc S64x1024 32 [0] iota_S64x1024_d0_w32 (ix2 x n) = BitVec.ofNat 32 x.val := by
  pointwise
/-- The column's number. -/
theorem iota_col (x : Fin 64) (n : Fin 1024) : iota .tc S64x1024 32 [1] iota_S64x1024_d1_w32 (ix2 x n) = BitVec.ofNat 32 n.val := by
  pointwise

/-- Token `n` lies in page `n / 16`. -/
theorem pageOf_token (n : Fin 1024) : pageOf (BitVec.ofNat 32 n.val) = BitVec.ofNat 32 (n.val / 16) := by
  revert n; decide +kernel

/-- The page of every token, on every row. -/
def tokenPages (v : IVec S64x1024 32) : IVec S64x1024 32 :=
  select
    (andi
      (cmpi .ne (subi (extui 32 (cmpi .sgt v (broadcast S64x1024 0#32)) natLt_1_32) (extui 32 (cmpi .slt v (broadcast S64x1024 0#32)) natLt_1_32))
        (broadcast S64x1024 (Scalar.subi (Scalar.extui (Scalar.cmpi .sgt 16#32 0#32)) (Scalar.extui (Scalar.cmpi .slt 16#32 0#32)))))
      (cmpi .ne (remsi v (broadcast S64x1024 16#32)) (broadcast S64x1024 0#32)))
    (subi (divsi v (broadcast S64x1024 16#32)) (broadcast S64x1024 1#32)) (divsi v (broadcast S64x1024 16#32))

/-- The quotient is taken element by element. -/
theorem tokenPages_apply (v : IVec S64x1024 32) (i : S64x1024.Idx) : tokenPages v i = pageOf (v i) := by
  rfl

/-- The word of local page `p` on device `d`: the cache's page `64 * (d / 2) + p`. -/
theorem page_word (d : Dev nD) (p : Fin 64) :
    IntOp.addi (Scalar.muli (Scalar.remsi (Scalar.divsi d.word 2#32) 2#32) 64#32) (BitVec.ofNat 32 p.val)
      = BitVec.ofNat 32 (64 * (d.val / 2) + p.val) := by
  have h : Scalar.muli (Scalar.remsi (Scalar.divsi d.word 2#32) 2#32) 64#32 = BitVec.ofNat 32 (64 * (d.val / 2)) := by
    revert d; decide
  rw [h]
  exact (BitVec.ofNat_add _ _).symm

/-- A slot's number is less than a length, as words, when it is as integers. -/
theorem slt_word (n : Fin 64) (x : BitVec 32) : IntOp.cmpi .slt (BitVec.ofNat 32 n.val) x = if (n.val : Int) < x.toInt then 1#1 else 0#1 := by
  have h : (BitVec.ofNat 32 n.val).toInt = (n.val : Int) := by
    have := n.isLt
    rw [BitVec.toInt_eq_toNat_of_lt] <;> rw [BitVec.toNat_ofNat] <;> omega
  simp only [IntOp.cmpi, BitVec.slt, h]
  by_cases c : (n.val : Int) < x.toInt <;> simp [c]

/-- A page's weight is the number of valid slots of the sequence that name it. -/
theorem weights_apply (d : Dev nD) (B : Blocks Ideal) (p : Fin 64) (b : Fin 8) :
    weights d B (ix2 p b) = ∑ s : Fin 64, if B.bt (ix2 b s) = BitVec.ofNat 32 (64 * (d.val / 2) + p.val) ∧ (s.val : Int) < (B.ln (ix1 b)).toInt then (1 : EReal) else 0 := by
  unfold weights
  pointwise [k0_pay3, k0_pay2, tableRow]
  refine Finset.sum_congr rfl fun s _ => ?_
  rw [page_word, slt_word]
  by_cases h1 : B.bt (ix2 b s) = BitVec.ofNat 32 (64 * (d.val / 2) + p.val) <;> by_cases h2 : (s.val : Int) < (B.ln (ix1 b)).toInt <;>
    simp [h1, h2, IntOp.cmpi, IntOp.andi, FloatOps.sitofp, beq_eq_false_iff_ne.mpr]

/-- Eight arrays of eight columns side by side. -/
theorem concat_apply {α : Type} (v0 v1 v2 v3 v4 v5 v6 v7 : S1024x8.Idx → α) (hc : Shape.Concatenates [S1024x8, S1024x8, S1024x8, S1024x8, S1024x8, S1024x8, S1024x8, S1024x8] S1024x64 1) (τ : Fin 1024) (h b : Fin 8) :
    concatenate S1024x64 1 [⟨S1024x8, v0⟩, ⟨S1024x8, v1⟩, ⟨S1024x8, v2⟩, ⟨S1024x8, v3⟩, ⟨S1024x8, v4⟩, ⟨S1024x8, v5⟩, ⟨S1024x8, v6⟩, ⟨S1024x8, v7⟩] hc
      (ix2 τ ⟨8 * h.val + b.val, by omega⟩) = ![v0, v1, v2, v3, v4, v5, v6, v7] h (ix2 τ b) := by
  fin_cases h
  all_goals pointwise
  all_goals
    repeat rw [dif_neg (by omega)]
    try rw [dif_pos (by omega)]
    congr 2
    apply Fin.ext
    simp
    try omega

/-- One array of eight columns, eight times. -/
theorem concat_same {α : Type} (v : S1024x8.Idx → α) (hc : Shape.Concatenates [S1024x8, S1024x8, S1024x8, S1024x8, S1024x8, S1024x8, S1024x8, S1024x8] S1024x64 1) (τ : Fin 1024) (h b : Fin 8) :
    concatenate S1024x64 1 [⟨S1024x8, v⟩, ⟨S1024x8, v⟩, ⟨S1024x8, v⟩, ⟨S1024x8, v⟩, ⟨S1024x8, v⟩, ⟨S1024x8, v⟩, ⟨S1024x8, v⟩, ⟨S1024x8, v⟩] hc
      (ix2 τ ⟨8 * h.val + b.val, by omega⟩) = v (ix2 τ b) :=
  (concat_apply v v v v v v v v hc τ h b).trans (by fin_cases h <;> rfl)

/-- One where the row is the token's page, else zero. -/
def pageMask : FVec Ideal S64x1024 .f32 :=
  sitofp .f32 (extui 32 (cmpi .eq (iota .tc S64x1024 32 [0] iota_S64x1024_d0_w32) (tokenPages (iota .tc S64x1024 32 [1] iota_S64x1024_d1_w32))) natLt_1_32)

/-- A token's page is the quotient of its number by 16. -/
theorem pageMask_apply (x p : Fin 64) (t : Fin 16) : pageMask (ix2 x ⟨p.val * 16 + t.val, by omega⟩) = if x = p then 1 else 0 := by
  have h (i : S64x1024.Idx) : pageMask i
      = FloatOps.sitofp (F := Ideal) .f32 (BitVec.setWidth 32 (IntOp.cmpi .eq (iota .tc S64x1024 32 [0] iota_S64x1024_d0_w32 i)
          (tokenPages (iota .tc S64x1024 32 [1] iota_S64x1024_d1_w32) i))) := rfl
  have e : (p.val * 16 + t.val) / 16 = p.val := by omega
  rw [h, tokenPages_apply, iota_row, iota_col, pageOf_token, e]
  by_cases c : x = p
  · subst c
    simp [IntOp.cmpi, FloatOps.sitofp]
  · have : BitVec.ofNat 32 x.val ≠ BitVec.ofNat 32 p.val := by
      intro h
      have := congrArg BitVec.toNat h
      simp only [BitVec.toNat_ofNat] at this
      exact c (Fin.ext (by omega))
    simp [IntOp.cmpi, FloatOps.sitofp, beq_eq_false_iff_ne.mpr this, c]

/-- Every token's weight, which is its page's. -/
def spread (w : FVec Ideal S64x8 .f32) : FVec Ideal S1024x8 .f32 :=
  matmul dot_S64x1024_S64x8_S1024x8_0_0_1_1_n_n none pageMask w (constant S1024x8 .f32 0x00000000#32)

/-- A token's weight is its page's. -/
theorem spread_apply (w : FVec Ideal S64x8 .f32) (p : Fin 64) (t : Fin 16) (b : Fin 8) :
    spread w (ix2 ⟨p.val * 16 + t.val, by omega⟩ b) = w (ix2 p b) := by
  have h (n : Fin 1024) : spread w (ix2 n b) = ∑ x : Fin 64, pageMask (ix2 x n) * w (ix2 x b) := by
    pointwise [spread]
  rw [h]
  simp only [pageMask_apply, ite_mul, one_mul, zero_mul, Finset.sum_ite_eq', Finset.mem_univ, if_true]

/-- The logarithms of the weights of all tokens, for every sequence. -/
def tokenLogs (w : FVec Ideal S64x8 .f32) : FVec Ideal S1024x8 .f32 :=
  select (cmpf .ogt (spread w) (broadcast S1024x8 (Scalar.ofBits .f32 0x00000000#32))) (log (spread w))
    (broadcast S1024x8 (Named.named κ "neg" 0xF149F2CA#32))

/-- The kernel's logarithms are those of the tokens, once for every head. -/
theorem logWeights_eq (d : Dev nD) (B : Blocks Ideal) : logWeights d B
    = concatenate S1024x64 1 [⟨S1024x8, tokenLogs (weights d B)⟩, ⟨S1024x8, tokenLogs (weights d B)⟩, ⟨S1024x8, tokenLogs (weights d B)⟩,
        ⟨S1024x8, tokenLogs (weights d B)⟩, ⟨S1024x8, tokenLogs (weights d B)⟩, ⟨S1024x8, tokenLogs (weights d B)⟩,
        ⟨S1024x8, tokenLogs (weights d B)⟩, ⟨S1024x8, tokenLogs (weights d B)⟩]
        concatenates_S1024x8_S1024x8_S1024x8_S1024x8_S1024x8_S1024x8_S1024x8_S1024x8_S1024x64_d1 := rfl

/-- The logarithm where the weight is positive, else −∞. -/
theorem tokenLogs_apply (w : FVec Ideal S64x8 .f32) (i : S1024x8.Idx) :
    tokenLogs w i = if 0 < spread w i then Ideal.log (spread w i) else ⊥ := by
  have h : tokenLogs w i = if 0 < spread w i then Ideal.log (spread w i) else (Named.named κ "neg" 0xF149F2CA#32 : Ideal .f32) := by
    pointwise [tokenLogs]
  rw [h, IdealRules.named_const.ideal_named_scalar κ "neg" _ ⊥ rfl]

/-- The logarithm of the weight of a token's page. -/
theorem logWeights_apply (d : Dev nD) (B : Blocks Ideal) (p : Fin 64) (t : Fin 16) (h b : Fin 8) :
    logWeights d B (ix2 ⟨p.val * 16 + t.val, by omega⟩ ⟨8 * h.val + b.val, by omega⟩)
      = if 0 < weights d B (ix2 p b) then Ideal.log (weights d B (ix2 p b)) else ⊥ := by
  rw [logWeights_eq, concat_same, tokenLogs_apply, spread_apply]

/-- A probability: the exponential of the scaled dot product plus the logarithm of the weight. -/
theorem probs_apply (d : Dev nD) (B : Blocks Ideal) (τ : Fin 1024) (h b : Fin 8) :
    probs d B (ix2 τ ⟨8 * h.val + b.val, by omega⟩)
      = Ideal.exp ((∑ e : Fin 64, B.k (ix2 τ ⟨64 * h.val + e.val, by omega⟩) * B.q (ix4 b 0 h e)) * Ideal.ofBits .f32 0x3E000000#32
          + logWeights d B (ix2 τ ⟨8 * h.val + b.val, by omega⟩)) := by
  have hs : ∀ h : Fin 8, score B h (ix2 τ b) = ∑ e : Fin 64, B.k (ix2 τ ⟨64 * h.val + e.val, by omega⟩) * B.q (ix4 b 0 h e) := by
    intro h
    pointwise [score, k0_pay17, keyHead, queryHead]
  unfold probs k0_pay24
  have hc := concat_apply (score B 0) (score B 1) (score B 2) (score B 3) (score B 4) (score B 5) (score B 6) (score B 7)
    concatenates_S1024x8_S1024x8_S1024x8_S1024x8_S1024x8_S1024x8_S1024x8_S1024x8_S1024x64_d1 τ h b
  have e : ![score B 0, score B 1, score B 2, score B 3, score B 4, score B 5, score B 6, score B 7] h = score B h := by
    fin_cases h <;> rfl
  rw [e, hs] at hc
  exact congrArg (fun x => Ideal.exp (x * Ideal.ofBits .f32 0x3E000000#32 + logWeights d B (ix2 τ ⟨8 * h.val + b.val, by omega⟩))) hc

/-- The values and a column of ones. -/
def column (B : Blocks Ideal) (n : Fin 1024) (h : Fin 8) (e : Fin 65) : EReal :=
  if c : e.val < 64 then B.v (ix2 n ⟨64 * h.val + e.val, by omega⟩) else 1

/-- The values' columns, then the ones. -/
theorem values_apply (v : Vec Ideal S1024x512 .bf16) (n : Fin 1024) (e : Fin 513) :
    k0_pay25 v (ix2 n e) = if c : e.val < 512 then v (ix2 n ⟨e.val, c⟩) else 1 := by
  pointwise [k0_pay25]

/-- Half `g` of the sums: the probabilities of its 32 columns times the values. -/
theorem half_apply (d : Dev nD) (B : Blocks Ideal) (g : Fin 2) (r : Fin 32) (e : Fin 513) :
    half d B g (ix2 r e) = ∑ n : Fin 1024, probs d B (ix2 n ⟨32 * g.val + r.val, by omega⟩)
      * (if c : e.val < 512 then B.v (ix2 n ⟨e.val, c⟩) else 1) := by
  refine Eq.trans ?_ (Finset.sum_congr rfl fun n _ => congrArg (_ * ·) (values_apply B.v n e))
  fin_cases g
  · show k0_pay26 _ _ _ _ _ _ _ _ _ _ _ _ = _
    pointwise [k0_pay26]
    rfl
  · show k0_pay36 _ _ _ = _
    pointwise [k0_pay36]

/-- The device's sums: over its tokens, the probabilities times the values, and (last column) the probabilities alone. -/
theorem own_apply (d : Dev nD) (B : Blocks Ideal) (h b : Fin 8) (e : Fin 65) :
    own d B (ix3 h b e) = ∑ n : Fin 1024, probs d B (ix2 n ⟨8 * h.val + b.val, by omega⟩) * column B n h e := by
  refine (half_apply d B _ _ _).trans (Finset.sum_congr rfl fun n _ => ?_)
  congr 1
  · congr 2
    apply Fin.ext
    show 32 * (h.val / 4) + (8 * (h.val % 4) + b.val) = 8 * h.val + b.val
    omega
  · unfold column
    show (if c : (if e.val < 64 then 64 * h.val + e.val else 512) < 512 then B.v (ix2 n ⟨if e.val < 64 then 64 * h.val + e.val else 512, c⟩) else 1) = _
    by_cases c : e.val < 64
    · have : (if e.val < 64 then 64 * h.val + e.val else 512) < 512 := by rw [if_pos c]; omega
      rw [dif_pos this, dif_pos c]
      congr 2
      apply Fin.ext
      exact if_pos c
    · have : ¬ (if e.val < 64 then 64 * h.val + e.val else 512) < 512 := by rw [if_neg c]; omega
      rw [dif_neg this, dif_neg c]

/-- The result: the sum of the numerators by the sum of the normalisers. -/
theorem combine_apply (x y : Vec Ideal S8x8x65 .f32) (b h : Fin 8) (e : Fin 64) :
    combine x y (ix4 b 0 h e)
      = Ideal.div (x (ix3 h b ⟨e.val, by omega⟩) + y (ix3 h b ⟨e.val, by omega⟩)) (x (ix3 h b 64) + y (ix3 h b 64)) := by
  unfold combine
  pointwise [k0_pay46, slab]

end Cert.KernelIdeal.Value
-- ==== Proof.KernelIdealProtocol.lean ====
module

public import proofs.«01_k».proof.Proof.KernelIdealPartial
public import proofs.«01_k».proof.Proof.Gen.KernelIdeal.Launch
public import Idealize.ShloMosaic.Lib.Pipeline.Launch
public import Idealize.ShloMosaic.Lib.Pipeline.Kit
public import Idealize.ShloMosaic.Lib.Pipeline.RegionTalk
public import Idealize.ShloMosaic.Lib.Rounds
public import Idealize.ShloMosaic.Lib.Tactic

/-!
# The exchange between the two devices that share a sequence

Every device has five cells: its barrier, and for each half of the heads a send cell and a receive cell. A device
signals its neighbour's barrier, lending it the landing halves of its buffer of sums; it waits for its own barrier,
fills each half of its own sums, copies it into the neighbour's landing half, and waits for its own copy and for the
neighbour's. This module states the cells, what each carries and when a device may wait.
-/

@[expose] public section

set_option maxRecDepth 16384

noncomputable section

namespace Cert.KernelIdeal.Protocol

open Cert.KernelIdeal Cert.KernelIdeal.Gen Cert.KernelIdeal.Partial

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The ghost state: the pipeline's rounds and the exchange's. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

abbrev 𝒱₀ : Variants := Variants.none

/-! ## The neighbour -/

/-- The device with the other half of the pages: `(1 - x, y)` for `(x, y)`. -/
def peer (c : Dev nD) : Dev nD := ⟨2 * (1 - c.val / 2) + c.val % 2, by have : c.val < 4 := c.isLt; show _ < 4; omega⟩

theorem peer_peer (c : Dev nD) : peer (peer c) = c := by revert c; decide

theorem dev1_eq (c : Dev nD) : (⟨k0_dev1 c, k0_dev1_lt c⟩ : Dev nD) = peer c := by revert c; decide
theorem dev2_eq (c : Dev nD) : (⟨k0_dev2 c, k0_dev2_lt c⟩ : Dev nD) = peer c := by revert c; decide
theorem dev3_eq (c : Dev nD) : (⟨k0_dev3 c, k0_dev3_lt c⟩ : Dev nD) = peer c := by revert c; decide

/-- The exchange as a permutation of the devices. -/
def swap : Dev nD ≃ Dev nD := ⟨peer, peer, peer_peer, peer_peer⟩

/-! ## The cells -/

/-- The barrier's semaphore. -/
abbrev barS : Sem sig := (SemArray.scalar (sig.barrier 0 rfl) : Sems sig S_).sem

/-- The semaphore of the copy of half `g`, at its sender. -/
def sendS : Fin 2 → DmaSem sig
  | 0 => ((cc0_scratch2.slice (Rect.unit (s := S2) ![0] S1.size inb_S2_S1_0)).squeeze S_ squeezes_S1_S_).sem
  | 1 => ((cc0_scratch2.slice (Rect.unit (s := S2) ![1] S1.size inb_S2_S1_1)).squeeze S_ squeezes_S1_S_).sem

/-- The semaphore of the copy of half `g`, at its receiver. -/
def recvS : Fin 2 → DmaSem sig
  | 0 => ((cc0_scratch3.slice (Rect.unit (s := S2) ![0] S1.size inb_S2_S1_0)).squeeze S_ squeezes_S1_S_).sem
  | 1 => ((cc0_scratch3.slice (Rect.unit (s := S2) ![1] S1.size inb_S2_S1_1)).squeeze S_ squeezes_S1_S_).sem

abbrev barCell (c : Dev nD) : GSem nD τ sig := ((c : Thread nD τ), .reg barS)
abbrev sendCell (c : Dev nD) (g : Fin 2) : GSem nD τ sig := ((c : Thread nD τ), .dma (sendS g))
abbrev recvCell (c : Dev nD) (g : Fin 2) : GSem nD τ sig := ((c : Thread nD τ), .dma (recvS g))

theorem sendS_val (g : Fin 2) : (sendS g).val = 6 + g.val := by revert g; decide
theorem recvS_val (g : Fin 2) : (recvS g).val = 8 + g.val := by revert g; decide

theorem send_ne_bar (g : Fin 2) : (SemLoc.dma (sendS g) : SemLoc sig) ≠ .reg barS := fun h => by cases h
theorem recv_ne_bar (g : Fin 2) : (SemLoc.dma (recvS g) : SemLoc sig) ≠ .reg barS := fun h => by cases h

/-- A semaphore one of the copies reports to at its receiver. -/
abbrev IsRecv (s : SemLoc sig) : Prop := s = .dma (recvS 0) ∨ s = .dma (recvS 1)
/-- A semaphore one of the copies reports to at its sender. -/
abbrev IsSend (s : SemLoc sig) : Prop := s = .dma (sendS 0) ∨ s = .dma (sendS 1)

theorem isRecv (g : Fin 2) : IsRecv (.dma (recvS g)) := by
  match g with
  | 0 => exact .inl rfl
  | 1 => exact .inr rfl
theorem isSend (g : Fin 2) : IsSend (.dma (sendS g)) := by
  match g with
  | 0 => exact .inl rfl
  | 1 => exact .inr rfl
theorem not_isRecv_send (g : Fin 2) : ¬ IsRecv (.dma (sendS g)) := by revert g; decide

/-- Which half a copy's semaphore belongs to. -/
def halfOf (s : SemLoc sig) : Fin 2 := if s = .dma (sendS 1) ∨ s = .dma (recvS 1) then 1 else 0

theorem halfOf_send (g : Fin 2) : halfOf (.dma (sendS g)) = g := by revert g; decide
theorem halfOf_recv (g : Fin 2) : halfOf (.dma (recvS g)) = g := by revert g; decide

/-! ## The buffer of sums and its four quarters -/

/-- The buffer of sums: slot 0 holds the device's own, slot 1 the neighbour's. -/
abbrev sumsM : Memref sig .tc .vmem S2x8x8x65 .f32 := Memref.whole cc0_scratch0

theorem quarter_inb (s g : Fin 2) : ∀ a, (![s.val, 4 * g.val, 0, 0] : Fin 4 → ℕ) a + S1x4x8x65.size a ≤ S2x8x8x65.size a := by
  revert s g; decide

/-- Half `g` of slot `s`. -/
def quarter (s g : Fin 2) : Rect S2x8x8x65 := Rect.unit (s := S2x8x8x65) ![s.val, 4 * g.val, 0, 0] S1x4x8x65.size (quarter_inb s g)

/-- Half `g` of slot `s` as the copies name it. -/
abbrev quarterM (s g : Fin 2) : Memref sig .tc .vmem S4x8x65 .f32 :=
  (sumsM.slice (quarter s g) (fun _ => rfl)).squeeze S4x8x65 squeezes_S1x4x8x65_S4x8x65

theorem quarterM_set (s g : Fin 2) : (quarterM s g).view.set = sumsM.view.setOn (quarter s g).set :=
  (View.set_reshape _ _).trans (View.set_slice _ _)

/-- Half `g` of slot `s` of device `c`'s buffer, at contents `f`. -/
abbrev qPts (c : Dev nD) (s g : Fin 2) (f : Buf (Elt F) (sumsM.view.loc (c : Thread nD τ))) : sProp 𝕄 :=
  sumsM.view.loc (c : Thread nD τ) ↦[sumsM.view.setOn (quarter s g).set]{fullShare} f

theorem mem_quarter {s g : Fin 2} {i : S2x8x8x65.Idx} : i ∈ sumsM.view.setOn (quarter s g).set ↔ (i 0).val = s.val ∧ (i 1).val / 4 = g.val := by
  have h : sumsM.view.setOn (quarter s g).set = (quarter s g).set := by
    unfold View.setOn; exact Finset.map_refl
  rw [h]
  unfold quarter
  rw [Rect.mem_set_unit]
  have h1 : (i 1).val < 8 := (i 1).isLt
  have h2 : (i 2).val < 8 := (i 2).isLt
  have h3 : (i 3).val < 65 := (i 3).isLt
  constructor
  · intro h
    have h0 := h 0; have h1' := h 1
    simp at h0 h1'
    omega
  · rintro ⟨e0, e1⟩ a
    match a with
    | 0 => simp; omega
    | 1 => simp; omega
    | 2 => simp; omega
    | 3 => simp; omega

variable (Bl : Dev nD → Blocks F)

/-- What device `c`'s buffer holds once both copies have landed: its own sums and its neighbour's. -/
def sums (c : Dev nD) : Buf (Elt F) (sumsM.view.loc (c : Thread nD τ)) := pairOf (own c (Bl c)) (own (peer c) (Bl (peer c)))

/-- The credit one copy gives. -/
abbrev N : ℕ := (quarterM 0 0).view.dmaCredit

theorem N_pos : 0 < N := View.dmaCredit_pos _ (by decide)

/-! ## The schedule -/

/-- What the neighbour's signal hands to device `c`'s barrier: both landing halves of the neighbour, and that its receive
    cells are open. -/
def barPay (c : Dev nD) : sProp 𝕄 :=
  iprop((∃ f, qPts (peer c) 1 0 f) ∗ (∃ f, qPts (peer c) 1 1 f) ∗ reached ER (recvCell (peer c) 0) 0 ∗ reached ER (recvCell (peer c) 1) 0)
/-- What the neighbour's copy hands to device `c`'s receive cell: the landing half, with the neighbour's sums. -/
def recvPay (c : Dev nD) (g : Fin 2) : sProp 𝕄 := qPts c 1 g (sums Bl c)
/-- What the own copy hands back at the send cell: the copied half. -/
def sendPay (c : Dev nD) (g : Fin 2) : sProp 𝕄 := qPts c 0 g (sums Bl c)

/-- A cell of the exchange. -/
abbrev IsCell (g : GSem nD τ sig) : Prop := g.1.2 = .tc ∧ (g.2 = .reg barS ∨ IsRecv g.2 ∨ IsSend g.2)

/-- One round, with one duty, on each of the five cells of a device. -/
def rd : Rounds.Schedule (GSem nD τ sig) Unit 𝕄 where
  duties g r := if r = 0 ∧ IsCell g then {()} else ∅
  unitless _ := False
  amount g _ _ := if g.2 = .reg barS then 1 else N
  payload g _ _ :=
    if g.2 = .reg barS then barPay g.1.1
    else if IsRecv g.2 then recvPay Bl g.1.1 (halfOf g.2)
    else if IsSend g.2 then sendPay Bl g.1.1 (halfOf g.2)
    else iprop(emp)
  amount_pos g _ _ _ := by
    by_cases h : g.2 = .reg barS
    · rw [if_pos h]; exact Nat.one_pos
    · rw [if_neg h]; exact N_pos

instance rd_payload_storable (g : GSem nD τ sig) (r : ℕ) (d : Unit) :
    BI.Storable (upEmb : UEmb _ 𝕄) ((rd Bl).payload g r d) := by
  show BI.Storable upEmb (if g.2 = .reg barS then barPay g.1.1 else if IsRecv g.2 then recvPay Bl g.1.1 (halfOf g.2)
    else if IsSend g.2 then sendPay Bl g.1.1 (halfOf g.2) else iprop(emp))
  unfold barPay recvPay sendPay
  (repeat' split) <;> infer_instance

section Tables

variable (c : Dev nD) (g : Fin 2)

theorem duties_bar : (rd Bl).duties (barCell c) 0 = {()} := by dsimp only [rd]; exact if_pos ⟨rfl, rfl, .inl rfl⟩
theorem duties_send : (rd Bl).duties (sendCell c g) 0 = {()} := by dsimp only [rd]; exact if_pos ⟨rfl, rfl, .inr (.inr (isSend g))⟩
theorem duties_recv : (rd Bl).duties (recvCell c g) 0 = {()} := by dsimp only [rd]; exact if_pos ⟨rfl, rfl, .inr (.inl (isRecv g))⟩
theorem duties_later (e : GSem nD τ sig) : ∀ r, 1 ≤ r → (rd Bl).duties e r = ∅ :=
  fun r hr => by dsimp only [rd]; exact if_neg fun h => by omega

theorem amount_bar (u : Unit) : (rd Bl).amount (barCell c) 0 u = 1 := by dsimp only [rd]; exact if_pos rfl
theorem amount_send (u : Unit) : (rd Bl).amount (sendCell c g) 0 u = N := by dsimp only [rd]; exact if_neg (send_ne_bar g)
theorem amount_recv (u : Unit) : (rd Bl).amount (recvCell c g) 0 u = N := by dsimp only [rd]; exact if_neg (recv_ne_bar g)

theorem expect_bar : (rd Bl).expect (barCell c) 0 = 1 := by
  unfold Schedule.expect Schedule.amountOf; rw [duties_bar, Finset.sum_singleton, amount_bar]
theorem expect_send : (rd Bl).expect (sendCell c g) 0 = N := by
  unfold Schedule.expect Schedule.amountOf; rw [duties_send, Finset.sum_singleton, amount_send]
theorem expect_recv : (rd Bl).expect (recvCell c g) 0 = N := by
  unfold Schedule.expect Schedule.amountOf; rw [duties_recv, Finset.sum_singleton, amount_recv]

theorem payload_bar (u : Unit) : (rd Bl).payload (barCell c) 0 u = barPay c := by dsimp only [rd]; exact if_pos rfl
theorem payload_recv (u : Unit) : (rd Bl).payload (recvCell c g) 0 u = recvPay Bl c g := by
  dsimp only [rd]; rw [if_neg (recv_ne_bar g), if_pos (isRecv g), halfOf_recv]
theorem payload_send (u : Unit) : (rd Bl).payload (sendCell c g) 0 u = sendPay Bl c g := by
  dsimp only [rd]; rw [if_neg (send_ne_bar g), if_neg (not_isRecv_send g), if_pos (isSend g), halfOf_send]

theorem rest_bar : bigSep ((rd Bl).duties (barCell c) 0 \ ∅) (fun u => (rd Bl).payload (barCell c) 0 u) = barPay c := by
  rw [Finset.sdiff_empty, duties_bar, bigSep_singleton, payload_bar]
theorem rest_send : bigSep ((rd Bl).duties (sendCell c g) 0 \ ∅) (fun u => (rd Bl).payload (sendCell c g) 0 u) = sendPay Bl c g := by
  rw [Finset.sdiff_empty, duties_send, bigSep_singleton, payload_send]
theorem rest_recv : bigSep ((rd Bl).duties (recvCell c g) 0 \ ∅) (fun u => (rd Bl).payload (recvCell c g) 0 u) = recvPay Bl c g := by
  rw [Finset.sdiff_empty, duties_recv, bigSep_singleton, payload_recv]

end Tables

/-! ## What a device owes at launch, and the levels -/

/-- The credits of the two copies. -/
def O₁ (c : Dev nD) : CellTallies nD τ sig Unit := tallyAt (recvCell (peer c) 1) () N + tallyAt (recvCell (peer c) 0) () N
/-- The credits of the two copies, and the neighbour's barrier unit. -/
def O₀ (c : Dev nD) : CellTallies nD τ sig Unit := O₁ c + tallyAt (barCell (peer c)) () 1

def L (g : GSem nD τ sig) : Finset Unit := if g.1.2 = .tc then {()} else ∅
/-- Barriers below receive cells, the rest lowest. -/
def lv (g : GSem nD τ sig) (_ : Unit) : ℕ := if g.2 = .reg barS then 1 else if IsRecv g.2 then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := if_pos rfl
theorem lv_recv (c : Dev nD) (g : Fin 2) (u : Unit) : lv (recvCell c g) u = 2 := by
  unfold lv; rw [if_neg (recv_ne_bar g), if_pos (isRecv g)]

theorem O₁_pos {c : Dev nD} {e : GSem nD τ sig} {u : Unit} (h : 0 < O₁ c e u) : e = recvCell (peer c) 1 ∨ e = recvCell (peer c) 0 := by
  unfold O₁ at h
  rw [Pi.add_apply, Finsupp.add_apply, tallyAt_apply, tallyAt_apply] at h
  by_contra hn; rw [not_or] at hn
  rw [if_neg (fun h' => hn.1 h'.1), if_neg (fun h' => hn.2 h'.1)] at h
  exact Nat.lt_irrefl 0 h

theorem O₀_pos {c : Dev nD} {e : GSem nD τ sig} {u : Unit} (h : 0 < O₀ c e u) :
    e = recvCell (peer c) 1 ∨ e = recvCell (peer c) 0 ∨ e = barCell (peer c) := by
  unfold O₀ at h
  rw [Pi.add_apply, Finsupp.add_apply, tallyAt_apply] at h
  by_cases hb : e = barCell (peer c)
  · exact .inr (.inr hb)
  · rw [if_neg (fun h' => hb h'.1), Nat.add_zero] at h
    rcases O₁_pos h with h | h
    · exact .inl h
    · exact .inr (.inl h)

/-- A device may wait for its barrier while it owes the two copies. -/
theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun e u hg => by rcases O₁_pos hg with rfl | rfl <;> exact Finset.mem_singleton_self _)
    (fun p hp => by rw [Finset.mem_singleton.mp hp]; exact le_of_eq (lv_bar c _))
    (fun e u hg => by
      rcases O₁_pos hg with rfl | rfl <;> rw [lv_recv] <;> decide)

/-- A device may wait for a staging transfer whatever it owes of the exchange. -/
theorem mayWait_stage (c : Dev nD) (q : DmaSem sig) (hq : ¬ IsRecv (.dma q)) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun e u hg => by rcases O₀_pos hg with rfl | rfl | rfl <;> exact Finset.mem_singleton_self _)
      (fun p hp => by rw [Finset.mem_singleton.mp hp]; dsimp only [lv]; rw [if_neg (fun h => by cases h), if_neg hq])
      (fun e u hg => by
        rcases O₀_pos hg with rfl | rfl | rfl
        · rw [lv_recv]; decide
        · rw [lv_recv]; decide
        · rw [lv_bar]; decide)
  · rw [MayWait_zero]; iintro -; iempintro

/-! ## The ghost state a device carries -/

/-- The invariants device `c` opens: its own five cells', and the neighbour's barrier and receive cells'. -/
def cellInvs (K : GSem nD τ sig → ℕ) (c : Dev nD) : sProp 𝕄 :=
  iprop(cellInv ER (rd Bl) (K (barCell c)) (barCell c)
    ∗ cellInv ER (rd Bl) (K (sendCell c 0)) (sendCell c 0) ∗ cellInv ER (rd Bl) (K (sendCell c 1)) (sendCell c 1)
    ∗ cellInv ER (rd Bl) (K (recvCell c 0)) (recvCell c 0) ∗ cellInv ER (rd Bl) (K (recvCell c 1)) (recvCell c 1)
    ∗ cellInv ER (rd Bl) (K (barCell (peer c))) (barCell (peer c))
    ∗ cellInv ER (rd Bl) (K (recvCell (peer c) 0)) (recvCell (peer c) 0) ∗ cellInv ER (rd Bl) (K (recvCell (peer c) 1)) (recvCell (peer c) 1))

instance cellInvs_persistent (K : GSem nD τ sig → ℕ) (c : Dev nD) : BI.Persistent (cellInvs Bl K c) := by unfold cellInvs; infer_instance

/-- The duties device `c` will perform: its neighbour's barrier and receive cells, its own send cells. -/
def payToks (c : Dev nD) : sProp 𝕄 :=
  iprop(dutyTok ER (barCell (peer c)) 0 () ∗ dutyTok ER (recvCell (peer c) 0) 0 () ∗ dutyTok ER (recvCell (peer c) 1) 0 ()
    ∗ dutyTok ER (sendCell c 0) 0 () ∗ dutyTok ER (sendCell c 1) 0 ())

/-- What device `c` carries from launch to the kernel: its scoped cells are still to be opened. -/
def ghost (K : GSem nD τ sig → ℕ) (c : Dev nD) : sProp 𝕄 :=
  iprop(cellInvs Bl K c ∗ atPos ER (barCell c) 0 ∅ 0
    ∗ openTok ER (sendCell c 0) ∗ openTok ER (sendCell c 1) ∗ openTok ER (recvCell c 0) ∗ openTok ER (recvCell c 1)
    ∗ reached ER (barCell (peer c)) 0 ∗ payToks c)

/-- The three credits device `c` waits with from the start. -/
def creds (c : Dev nD) : sProp 𝕄 :=
  iprop(cred (tallyAt (barCell c) () 1) ∗ cred (tallyAt (recvCell c 0) () N) ∗ cred (tallyAt (recvCell c 1) () N))

/-- The same once the scoped cells are open. -/
def opened (K : GSem nD τ sig → ℕ) (c : Dev nD) : sProp 𝕄 :=
  iprop(cellInvs Bl K c ∗ atPos ER (barCell c) 0 ∅ 0
    ∗ atPos ER (sendCell c 0) 0 ∅ 0 ∗ atPos ER (sendCell c 1) 0 ∅ 0 ∗ atPos ER (recvCell c 0) 0 ∅ 0 ∗ atPos ER (recvCell c 1) 0 ∅ 0
    ∗ reached ER (barCell (peer c)) 0 ∗ reached ER (sendCell c 0) 0 ∗ reached ER (sendCell c 1) 0
    ∗ reached ER (recvCell c 0) 0 ∗ reached ER (recvCell c 1) 0 ∗ payToks c)

/-- A cell whose round is over is closed: its counter is back at zero. -/
theorem close (κ : ℕ) (g : GSem nD τ sig) :
    iprop(cellInv ER (rd Bl) κ g ∗ atPos ER g (0 + 1) ∅ 0) ⊢ (|={Set.univ}=> semVal g 0 : sProp 𝕄) :=
  Rounds.cell_close ER (rd Bl) (Set.mem_univ κ) id (duties_later Bl g)

end Cert.KernelIdeal.Protocol

end
-- ==== Proof.KernelIdealContents.lean ====
module

public import proofs.«01_k».proof.Proof.KernelIdealProtocol
public import Idealize.ShloMosaic.Lib.VecWindow
public import Idealize.ShloMosaic.Lib.Exec

/-!
# What the loads read and what the stores leave

The kernel's loads read a head, a row or a column of the operand blocks; its stores fill the weights column by column,
the buffer of sums head by head, and the result head by head. Each statement here says what such a load reads or what
such a list of stores leaves.
-/

@[expose] public section

set_option maxRecDepth 16384

noncomputable section

namespace Cert.KernelIdeal.Contents

open Cert.KernelIdeal Cert.KernelIdeal.Gen Cert.KernelIdeal.Partial Cert.KernelIdeal.Protocol
open Idealize.ShloMosaic

variable {F : FTy → Type} [FloatOps F] [Named F]

/-! ## Loads from the operand blocks -/

section Reads

variable (B : Blocks F)

/-- The columns of head `h` of the keys. -/
theorem read_key (h : Fin 8) (inb : ∀ a, (![0, 64 * h.val] : Fin 2 → ℕ) a + S1024x64.size a ≤ S1024x512.size a) :
    (Memref.whole cc0_stg1_0).view.readAt (Elt F) (Rect.unit (s := S1024x512) ![0, 64 * h.val] S1024x64.size inb).toLoadRect B.k = keyHead B h := by
  funext i
  exact congrArg B.k (funext fun a => Fin.ext (by
    match a with
    | 0 => show 0 + 1 * (i 0).val = (i 0).val; omega
    | 1 => show 64 * h.val + 1 * (i 1).val = 64 * h.val + (i 1).val; omega))

/-- Head `h` of the queries. -/
theorem read_query (h : Fin 8) (inb : ∀ a, (![0, 0, h.val, 0] : Fin 4 → ℕ) a + S8x1x1x64.size a ≤ S8x1x8x64.size a) :
    (Memref.whole cc0_stg0_0).view.readAt (Elt F) (Rect.unit (s := S8x1x8x64) ![0, 0, h.val, 0] S8x1x1x64.size inb).toLoadRect B.q = queryHead B h := by
  funext i
  exact congrArg B.q (funext fun a => Fin.ext (by
    match a with
    | 0 => show 0 + 1 * (i 0).val = (i 0).val; omega
    | 1 => show 0 + 1 * (i 1).val = (i 1).val; omega
    | 2 => show h.val + 1 * (i 2).val = h.val; have : (i 2).val < 1 := (i 2).isLt; omega
    | 3 => show 0 + 1 * (i 3).val = (i 3).val; omega))

/-- All the values. -/
theorem read_value (inb : ∀ a, (![0, 0] : Fin 2 → ℕ) a + S1024x512.size a ≤ S1024x512.size a) :
    (Memref.whole cc0_stg2_0).view.readAt (Elt F) (Rect.unit (s := S1024x512) ![0, 0] S1024x512.size inb).toLoadRect B.v = B.v :=
  View.readAt_full _ _ inb

/-- Row `b` of the block table. -/
theorem read_row (b : Fin 8) (inb : ∀ a, (![b.val, 0] : Fin 2 → ℕ) a + S1x64.size a ≤ S8x64.size a) :
    (Memref.whole cc0_stg3_0).view.readAt (Elt F) (Rect.unit (s := S8x64) ![b.val, 0] S1x64.size inb).toLoadRect B.bt = tableRow B b := by
  funext i
  exact congrArg B.bt (funext fun a => Fin.ext (by
    match a with
    | 0 => show b.val + 1 * (i 0).val = b.val; have : (i 0).val < 1 := (i 0).isLt; omega
    | 1 => show 0 + 1 * (i 1).val = (i 1).val; omega))

/-- The length of sequence `b`. -/
theorem read_len (b : Fin 8) (inb : ∀ a, (![b.val] : Fin 1 → ℕ) a + S1.size a ≤ S8.size a) (i : (Rect.unit (s := S8) ![b.val] S1.size inb).toLoadRect.shape.Idx) :
    (Memref.whole cc0_stg4_0).view.readAt (Elt F) (Rect.unit (s := S8) ![b.val] S1.size inb).toLoadRect B.ln i = B.ln (ix1 b) :=
  congrArg B.ln (funext fun a => Fin.ext (by
    match a with
    | 0 => show b.val + 1 * (i 0).val = b.val; have : (i 0).val < 1 := (i 0).isLt; omega))

end Reads

/-! ## The weights, stored column by column -/

theorem column_inb (b : Fin 8) : ∀ a, (![0, b.val] : Fin 2 → ℕ) a + S64x1.size a ≤ S64x8.size a := by revert b; decide

/-- Eight stores of one column each leave the array whose columns they hold. -/
theorem columns (P : Fin 8 → Vec F S64x1 .f32) (inb : ∀ a, (![0, 0] : Fin 2 → ℕ) a + S64x8.size a ≤ S64x8.size a) :
    (Memref.whole cc0_scratch1).view.readCov (View.tilePieces (Val := Elt F) (s := S64x8) (e := .f32) S64x1.size (fun b : Fin 8 => ![0, b.val]) column_inb P 8 le_rfl)
        (Rect.unit (s := S64x8) ![0, 0] S64x8.size inb).toLoadRect
      = fun i : S64x8.Idx => P (i 1) (ix2 (i 0) 0) := by
  unfold View.readCov
  refine (View.readAt_full _ _ inb).trans ?_
  funext i
  refine View.read_tilePieces _ _ _ _ _ _ 8 le_rfl i (i 1) (i 1).isLt (ix2 (i 0) 0) (fun a => ?_) 1 (fun b hb => ?_)
  · match a with
    | 0 => show (i 0).val = 0 + (i 0).val; omega
    | 1 => show (i 1).val = (i 1).val + 0; omega
  · have hne : b.val ≠ (i 1).val := fun h => hb (Fin.ext h)
    show (i 1).val < b.val ∨ b.val + 1 ≤ (i 1).val
    omega

theorem row_inb (b : Fin 8) : ∀ a, (![b.val, 0] : Fin 2 → ℕ) a + S1x64.size a ≤ S8x64.size a := by revert b; decide
theorem len_inb (b : Fin 8) : ∀ a, (![b.val] : Fin 1 → ℕ) a + S1.size a ≤ S8.size a := by revert b; decide

/-- The eight columns, each made from its row of the block table and its length, are the weights. -/
theorem weights_read (d : Dev nD) (B : Blocks F) (x : S1.Idx) (inb : ∀ a, (![0, 0] : Fin 2 → ℕ) a + S64x8.size a ≤ S64x8.size a) :
    (Memref.whole cc0_scratch1).view.readCov (View.tilePieces (Val := Elt F) (s := S64x8) (e := .f32) S64x1.size (fun b : Fin 8 => ![0, b.val]) column_inb
        (fun b => k0_pay3 d ((Memref.whole cc0_stg3_0).view.readAt (Elt F) (Rect.unit (s := S8x64) ![b.val, 0] S1x64.size (row_inb b)).toLoadRect B.bt)
          ((Memref.whole cc0_stg4_0).view.readAt (Elt F) (Rect.unit (s := S8) ![b.val] S1.size (len_inb b)).toLoadRect B.ln x)) 8 le_rfl)
        (Rect.unit (s := S64x8) ![0, 0] S64x8.size inb).toLoadRect
      = weights d B := by
  rw [columns]
  funext i
  unfold weights
  exact congrFun (congrArg₂ (k0_pay3 d) (read_row B (i 1) _) (read_len B (i 1) _ x)) _

/-! ## The sums, stored head by head -/

/-- Eight stores, the 64 columns and the normaliser of each head of a half, leave the half of the array they hold. -/
theorem filled (g : Fin 2) (f : (sumsM.view).ty.Contents (Elt F)) (a : Vec F S8x8x65 .f32)
    (inbN : ∀ j : Fin 4, ∀ x, (![0, 4 * g.val + j.val, 0, 0] : Fin 4 → ℕ) x + S1x1x8x64.size x ≤ S2x8x8x65.size x)
    (inbD : ∀ j : Fin 4, ∀ x, (![0, 4 * g.val + j.val, 0, 64] : Fin 4 → ℕ) x + S1x1x8x1.size x ≤ S2x8x8x65.size x)
    (n0 n1 n2 n3 : Vec F S1x1x8x64 .f32) (d0 d1 d2 d3 : Vec F S1x1x8x1 .f32)
    (hn : ∀ (j : Fin 4) (b : Fin 8) (e : Fin 64), (match j with | 0 => n0 | 1 => n1 | 2 => n2 | 3 => n3 : Vec F S1x1x8x64 .f32) (ix4 0 0 b e)
      = a (ix3 ⟨4 * g.val + j.val, by show _ < 8; omega⟩ b ⟨e.val, by show _ < 65; omega⟩))
    (hd : ∀ (j : Fin 4) (b : Fin 8), (match j with | 0 => d0 | 1 => d1 | 2 => d2 | 3 => d3 : Vec F S1x1x8x1 .f32) (ix4 0 0 b 0)
      = a (ix3 ⟨4 * g.val + j.val, by show _ < 8; omega⟩ b ⟨64, by show _ < 65; omega⟩))
    (b' : Vec F S8x8x65 .f32) (i : S2x8x8x65.Idx) (hi : i ∈ sumsM.view.setOn (quarter 0 g).set) :
    sumsM.view.writes (Elt F) f
      [⟨Rect.unit (s := S2x8x8x65) ![0, 4 * g.val + (3 : Fin 4).val, 0, 64] S1x1x8x1.size (inbD 3), d3⟩,
       ⟨Rect.unit (s := S2x8x8x65) ![0, 4 * g.val + (3 : Fin 4).val, 0, 0] S1x1x8x64.size (inbN 3), n3⟩,
       ⟨Rect.unit (s := S2x8x8x65) ![0, 4 * g.val + (2 : Fin 4).val, 0, 64] S1x1x8x1.size (inbD 2), d2⟩,
       ⟨Rect.unit (s := S2x8x8x65) ![0, 4 * g.val + (2 : Fin 4).val, 0, 0] S1x1x8x64.size (inbN 2), n2⟩,
       ⟨Rect.unit (s := S2x8x8x65) ![0, 4 * g.val + (1 : Fin 4).val, 0, 64] S1x1x8x1.size (inbD 1), d1⟩,
       ⟨Rect.unit (s := S2x8x8x65) ![0, 4 * g.val + (1 : Fin 4).val, 0, 0] S1x1x8x64.size (inbN 1), n1⟩,
       ⟨Rect.unit (s := S2x8x8x65) ![0, 4 * g.val + (0 : Fin 4).val, 0, 64] S1x1x8x1.size (inbD 0), d0⟩,
       ⟨Rect.unit (s := S2x8x8x65) ![0, 4 * g.val + (0 : Fin 4).val, 0, 0] S1x1x8x64.size (inbN 0), n0⟩] i
      = pairOf a b' i := by
  obtain ⟨h0, h1⟩ := mem_quarter.mp hi
  have hs : (i 0).val = 0 := h0
  have h3 : (i 3).val < 65 := (i 3).isLt
  have h2 : (i 2).val < 8 := (i 2).isLt
  have hb : pairOf a b' i = a (ix3 (i 1) (i 2) (i 3)) := by unfold pairOf; exact if_pos hs
  rw [hb]
  obtain ⟨j, hj⟩ : ∃ j : Fin 4, (i 1).val = 4 * g.val + j.val := ⟨⟨(i 1).val % 4, by omega⟩, by show _ = 4 * g.val + (i 1).val % 4; omega⟩
  have hi1 : i 1 = ⟨4 * g.val + j.val, by show _ < 8; omega⟩ := Fin.ext hj
  have hlt : ∀ k : Fin 4, j.val < k.val → (i 1).val < 4 * g.val + k.val := fun k hk => by omega
  by_cases he : (i 3).val < 64
  · have ha := hn j (i 2) ⟨(i 3).val, he⟩
    rw [hi1]; refine Eq.trans ?_ ha
    refine (congrFun (View.read_whole (Val := Elt F) cc0_scratch0 _) i).symm.trans ?_
    have hx : ∀ x, (i x).val = (![0, 4 * g.val + j.val, 0, 0] : Fin 4 → ℕ) x + ((ix4 0 0 (i 2) ⟨(i 3).val, he⟩ : S1x1x8x64.Idx) x).val := fun x => by
      match x with
      | 0 => show _ = 0 + 0; omega
      | 1 => show (i 1).val = (4 * g.val + j.val) + 0; omega
      | 2 => show (i 2).val = 0 + (i 2).val; omega
      | 3 => show (i 3).val = 0 + (i 3).val; omega
    rcases (by omega : j = 0 ∨ j = 1 ∨ j = 2 ∨ j = 3) with rfl | rfl | rfl | rfl
    · iterate 3
        rw [View.read_writes_cons_unit_of_not_mem _ _ _ _ _ i rfl 3 (.inl he)]
        rw [View.read_writes_cons_unit_of_not_mem _ _ _ _ _ i rfl 1 (.inl (by exact hlt _ (by decide)))]
      rw [View.read_writes_cons_unit_of_not_mem _ _ _ _ _ i rfl 3 (.inl he)]
      exact View.read_writes_cons_unit_of_mem _ _ _ _ _ i (ix4 0 0 (i 2) ⟨(i 3).val, he⟩) rfl hx
    · iterate 2
        rw [View.read_writes_cons_unit_of_not_mem _ _ _ _ _ i rfl 3 (.inl he)]
        rw [View.read_writes_cons_unit_of_not_mem _ _ _ _ _ i rfl 1 (.inl (by exact hlt _ (by decide)))]
      rw [View.read_writes_cons_unit_of_not_mem _ _ _ _ _ i rfl 3 (.inl he)]
      exact View.read_writes_cons_unit_of_mem _ _ _ _ _ i (ix4 0 0 (i 2) ⟨(i 3).val, he⟩) rfl hx
    · rw [View.read_writes_cons_unit_of_not_mem _ _ _ _ _ i rfl 3 (.inl he)]
      rw [View.read_writes_cons_unit_of_not_mem _ _ _ _ _ i rfl 1 (.inl (by exact hlt _ (by decide)))]
      rw [View.read_writes_cons_unit_of_not_mem _ _ _ _ _ i rfl 3 (.inl he)]
      exact View.read_writes_cons_unit_of_mem _ _ _ _ _ i (ix4 0 0 (i 2) ⟨(i 3).val, he⟩) rfl hx
    · rw [View.read_writes_cons_unit_of_not_mem _ _ _ _ _ i rfl 3 (.inl he)]
      exact View.read_writes_cons_unit_of_mem _ _ _ _ _ i (ix4 0 0 (i 2) ⟨(i 3).val, he⟩) rfl hx
  · have ha := hd j (i 2)
    have hi3 : i 3 = ⟨64, by show _ < 65; omega⟩ := Fin.ext (by show (i 3).val = 64; omega)
    rw [hi1, hi3]; refine Eq.trans ?_ ha
    refine (congrFun (View.read_whole (Val := Elt F) cc0_scratch0 _) i).symm.trans ?_
    have hx : ∀ x, (i x).val = (![0, 4 * g.val + j.val, 0, 64] : Fin 4 → ℕ) x + ((ix4 0 0 (i 2) 0 : S1x1x8x1.Idx) x).val := fun x => by
      match x with
      | 0 => show _ = 0 + 0; omega
      | 1 => show (i 1).val = (4 * g.val + j.val) + 0; omega
      | 2 => show (i 2).val = 0 + (i 2).val; omega
      | 3 => show (i 3).val = 64 + 0; omega
    rcases (by omega : j = 0 ∨ j = 1 ∨ j = 2 ∨ j = 3) with rfl | rfl | rfl | rfl
    · iterate 6
        rw [View.read_writes_cons_unit_of_not_mem _ _ _ _ _ i rfl 1 (.inl (by exact hlt _ (by decide)))]
      exact View.read_writes_cons_unit_of_mem _ _ _ _ _ i (ix4 0 0 (i 2) 0) rfl hx
    · iterate 4
        rw [View.read_writes_cons_unit_of_not_mem _ _ _ _ _ i rfl 1 (.inl (by exact hlt _ (by decide)))]
      exact View.read_writes_cons_unit_of_mem _ _ _ _ _ i (ix4 0 0 (i 2) 0) rfl hx
    · iterate 2
        rw [View.read_writes_cons_unit_of_not_mem _ _ _ _ _ i rfl 1 (.inl (by exact hlt _ (by decide)))]
      exact View.read_writes_cons_unit_of_mem _ _ _ _ _ i (ix4 0 0 (i 2) 0) rfl hx
    · exact View.read_writes_cons_unit_of_mem _ _ _ _ _ i (ix4 0 0 (i 2) 0) rfl hx

/-- The numerators of the own sums are columns of the half. -/
theorem own_num (d : Dev nD) (B : Blocks F) (h b : Fin 8) (e : Fin 64) :
    own d B (ix3 h b ⟨e.val, by show _ < 65; omega⟩) = half d B ⟨h.val / 4, by omega⟩
      (ix2 ⟨8 * (h.val % 4) + b.val, by show _ < 32; omega⟩ ⟨64 * h.val + e.val, by show _ < 513; omega⟩) := by
  unfold own
  exact congrArg _ (congrArg (ix2 _) (Fin.ext (if_pos e.isLt)))

/-- The normaliser is the last column. -/
theorem own_den (d : Dev nD) (B : Blocks F) (h b : Fin 8) :
    own d B (ix3 h b ⟨64, by show _ < 65; omega⟩) = half d B ⟨h.val / 4, by omega⟩
      (ix2 ⟨8 * (h.val % 4) + b.val, by show _ < 32; omega⟩ ⟨512, by show _ < 513; omega⟩) := by
  unfold own
  exact congrArg _ (congrArg (ix2 _) (Fin.ext (if_neg (t := 64 * h.val + 64) (Nat.lt_irrefl 64))))

/-- Columns `c₀` to `c₀ + 63` of rows `8j` to `8j + 7`, as a store takes them. -/
theorem num_at (og : FVec F S32x513 .f32) (r₀ c₀ : ℕ) (hr : r₀ + 8 ≤ 32) (hc : c₀ + 64 ≤ 513) (hs : S32x513.Slices ![r₀, c₀] S8x64) (b : Fin 8) (e : Fin 64) :
    (shapeCast S1x1x8x64 (extractStridedSlice S8x64 ![r₀, c₀] og hs) shapeCasts_S8x64_S1x1x8x64 : FVec F S1x1x8x64 .f32) (ix4 0 0 b e)
      = og (ix2 ⟨r₀ + b.val, by show _ < 32; omega⟩ ⟨c₀ + e.val, by show _ < 513; omega⟩) := by
  pointwise []

/-- The last column of those rows. -/
theorem den_at (og : FVec F S32x513 .f32) (r₀ : ℕ) (hr : r₀ + 8 ≤ 32) (hs : S32x513.Slices ![r₀, 512] S8x1) (b : Fin 8) :
    (shapeCast S1x1x8x1 (extractStridedSlice S8x1 ![r₀, 512] og hs) shapeCasts_S8x1_S1x1x8x1 : FVec F S1x1x8x1 .f32) (ix4 0 0 b 0)
      = og (ix2 ⟨r₀ + b.val, by show _ < 32; omega⟩ ⟨512, by show _ < 513; omega⟩) := by
  pointwise []

theorem numR_inb (g : Fin 2) (j : Fin 4) : ∀ x, (![0, 4 * g.val + j.val, 0, 0] : Fin 4 → ℕ) x + S1x1x8x64.size x ≤ S2x8x8x65.size x := by revert g j; decide
theorem denR_inb (g : Fin 2) (j : Fin 4) : ∀ x, (![0, 4 * g.val + j.val, 0, 64] : Fin 4 → ℕ) x + S1x1x8x1.size x ≤ S2x8x8x65.size x := by revert g j; decide
theorem numS (g : Fin 2) (j : Fin 4) : S32x513.Slices ![8 * j.val, 64 * (4 * g.val + j.val)] S8x64 := by revert g j; decide
theorem denS (j : Fin 4) : S32x513.Slices ![8 * j.val, 512] S8x1 := by revert j; decide

/-- The numerators of head `4 g + j` as they are stored, out of the half's product. -/
def numPiece (og : FVec F S32x513 .f32) (g : Fin 2) (j : Fin 4) : FVec F S1x1x8x64 .f32 :=
  shapeCast S1x1x8x64 (extractStridedSlice S8x64 ![8 * j.val, 64 * (4 * g.val + j.val)] og (numS g j)) shapeCasts_S8x64_S1x1x8x64
/-- The normaliser of head `4 g + j` as it is stored. -/
def denPiece (og : FVec F S32x513 .f32) (j : Fin 4) : FVec F S1x1x8x1 .f32 :=
  shapeCast S1x1x8x1 (extractStridedSlice S8x1 ![8 * j.val, 512] og (denS j)) shapeCasts_S8x1_S1x1x8x1

/-- What the eight stores of half `g` leave of the half: the device's own sums. -/
theorem filled_own (g : Fin 2) (d : Dev nD) (B : Blocks F) (og : FVec F S32x513 .f32) (hog : og = half d B g) (b' : Vec F S8x8x65 .f32)
    (f : (sumsM.view).ty.Contents (Elt F)) (i : S2x8x8x65.Idx) (hi : i ∈ sumsM.view.setOn (quarter 0 g).set) :
    sumsM.view.writes (Elt F) f
      [⟨Rect.unit (s := S2x8x8x65) ![0, 4 * g.val + (3 : Fin 4).val, 0, 64] S1x1x8x1.size (denR_inb g 3), denPiece og 3⟩,
       ⟨Rect.unit (s := S2x8x8x65) ![0, 4 * g.val + (3 : Fin 4).val, 0, 0] S1x1x8x64.size (numR_inb g 3), numPiece og g 3⟩,
       ⟨Rect.unit (s := S2x8x8x65) ![0, 4 * g.val + (2 : Fin 4).val, 0, 64] S1x1x8x1.size (denR_inb g 2), denPiece og 2⟩,
       ⟨Rect.unit (s := S2x8x8x65) ![0, 4 * g.val + (2 : Fin 4).val, 0, 0] S1x1x8x64.size (numR_inb g 2), numPiece og g 2⟩,
       ⟨Rect.unit (s := S2x8x8x65) ![0, 4 * g.val + (1 : Fin 4).val, 0, 64] S1x1x8x1.size (denR_inb g 1), denPiece og 1⟩,
       ⟨Rect.unit (s := S2x8x8x65) ![0, 4 * g.val + (1 : Fin 4).val, 0, 0] S1x1x8x64.size (numR_inb g 1), numPiece og g 1⟩,
       ⟨Rect.unit (s := S2x8x8x65) ![0, 4 * g.val + (0 : Fin 4).val, 0, 64] S1x1x8x1.size (denR_inb g 0), denPiece og 0⟩,
       ⟨Rect.unit (s := S2x8x8x65) ![0, 4 * g.val + (0 : Fin 4).val, 0, 0] S1x1x8x64.size (numR_inb g 0), numPiece og g 0⟩] i
      = pairOf (own d B) b' i := by
  subst hog
  have hg (j : Fin 4) : (⟨(4 * g.val + j.val) / 4, by omega⟩ : Fin 2) = g := Fin.ext (by show (4 * g.val + j.val) / 4 = g.val; omega)
  have hm (j : Fin 4) (b : Fin 8) : (⟨8 * ((4 * g.val + j.val) % 4) + b.val, by show _ < 32; omega⟩ : Fin 32) = ⟨8 * j.val + b.val, by show _ < 32; omega⟩ :=
    Fin.ext (by show 8 * ((4 * g.val + j.val) % 4) + b.val = 8 * j.val + b.val; omega)
  have hn (j : Fin 4) (b : Fin 8) (e : Fin 64) : numPiece (half d B g) g j (ix4 0 0 b e)
      = own d B (ix3 ⟨4 * g.val + j.val, by show _ < 8; omega⟩ b ⟨e.val, by show _ < 65; omega⟩) := by
    refine (num_at (half d B g) _ _ (by omega) (by omega) (numS g j) b e).trans (Eq.symm ?_)
    refine (own_num d B ⟨4 * g.val + j.val, by omega⟩ b e).trans ?_
    exact congr (congrArg (half d B) (hg j)) (congrArg (fun r : Fin 32 => (ix2 r ⟨64 * (4 * g.val + j.val) + e.val, by show _ < 513; omega⟩ : S32x513.Idx)) (hm j b))
  have hd (j : Fin 4) (b : Fin 8) : denPiece (half d B g) j (ix4 0 0 b 0)
      = own d B (ix3 ⟨4 * g.val + j.val, by show _ < 8; omega⟩ b ⟨64, by show _ < 65; omega⟩) := by
    refine (den_at (half d B g) _ (by omega) (denS j) b).trans (Eq.symm ?_)
    refine (own_den d B ⟨4 * g.val + j.val, by omega⟩ b).trans ?_
    exact congr (congrArg (half d B) (hg j)) (congrArg (fun r : Fin 32 => (ix2 r ⟨512, by show _ < 513; omega⟩ : S32x513.Idx)) (hm j b))
  refine filled g f (own d B) (numR_inb g) (denR_inb g) _ _ _ _ _ _ _ _ (fun j b e => ?_) (fun j b => ?_) b' i hi
  · rcases (by omega : j = 0 ∨ j = 1 ∨ j = 2 ∨ j = 3) with rfl | rfl | rfl | rfl <;> exact hn _ b e
  · rcases (by omega : j = 0 ∨ j = 1 ∨ j = 2 ∨ j = 3) with rfl | rfl | rfl | rfl <;> exact hd _ b

/-! ## The result, stored head by head -/

theorem head_inb (h : Fin 8) : ∀ a, (![0, 0, h.val, 0] : Fin 4 → ℕ) a + S8x1x1x64.size a ≤ S8x1x8x64.size a := by revert h; decide

/-- Eight stores of one head each leave the array whose heads they hold. -/
theorem heads (f : ((Memref.whole cc0_stg5_0).view).ty.Contents (Elt F)) (P : Fin 8 → Vec F S8x1x1x64 .f32) :
    (Memref.whole cc0_stg5_0).view.writes (Elt F) f (View.tilePieces (Val := Elt F) (s := S8x1x8x64) (e := .f32) S8x1x1x64.size (fun h : Fin 8 => ![0, 0, h.val, 0]) head_inb P 8 le_rfl)
      = fun i => P (i 2) (ix4 (i 0) 0 0 (i 3)) := by
  funext i
  refine (congrFun (View.read_whole (Val := Elt F) cc0_stg5_0 _) i).symm.trans ?_
  have h1 : (i 1).val < 1 := (i 1).isLt
  refine View.read_tilePieces _ _ _ _ _ _ 8 le_rfl i (i 2) (i 2).isLt (ix4 (i 0) 0 0 (i 3)) (fun a => ?_) 2 (fun b hb => ?_)
  · match a with
    | 0 => show (i 0).val = 0 + (i 0).val; omega
    | 1 => show (i 1).val = 0 + 0; omega
    | 2 => show (i 2).val = (i 2).val + 0; omega
    | 3 => show (i 3).val = 0 + (i 3).val; omega
  · have hne : b.val ≠ (i 2).val := fun h => hb (Fin.ext h)
    show (i 2).val < b.val ∨ b.val + 1 ≤ (i 2).val
    omega

/-- One head of the buffer of sums. -/
theorem read_slab (s : Fin 2) (h : Fin 8) (a b : Vec F S8x8x65 .f32)
    (inb : ∀ x, (![s.val, h.val, 0, 0] : Fin 4 → ℕ) x + S1x1x8x65.size x ≤ S2x8x8x65.size x) :
    sumsM.view.readAt (Elt F) (Rect.unit (s := S2x8x8x65) ![s.val, h.val, 0, 0] S1x1x8x65.size inb).toLoadRect (pairOf a b) = slab (if s = 0 then a else b) h := by
  funext i
  have h0 : (i 0).val < 1 := (i 0).isLt
  have h1 : (i 1).val < 1 := (i 1).isLt
  have e : (ix3 ⟨h.val + 1 * (i 1).val, by show _ < 8; omega⟩ ⟨0 + 1 * (i 2).val, by have : (i 2).val < 8 := (i 2).isLt; show _ < 8; omega⟩
      ⟨0 + 1 * (i 3).val, by have : (i 3).val < 65 := (i 3).isLt; show _ < 65; omega⟩ : S8x8x65.Idx) = ix3 h (i 2) (i 3) := funext fun x => Fin.ext (by
    match x with
    | 0 => show h.val + 1 * (i 1).val = h.val; omega
    | 1 => show 0 + 1 * (i 2).val = (i 2).val; omega
    | 2 => show 0 + 1 * (i 3).val = (i 3).val; omega)
  rcases (by omega : s = 0 ∨ s = 1) with rfl | rfl
  · rw [if_pos rfl]
    exact (if_pos (show 0 + 1 * (i 0).val = 0 by omega)).trans (congrArg a e)
  · rw [if_neg (by decide)]
    exact (if_neg (show ¬ 1 + 1 * (i 0).val = 0 by omega)).trans (congrArg b e)

end Cert.KernelIdeal.Contents
end
-- ==== Proof.KernelIdealSend.lean ====
module

public import proofs.«01_k».proof.Proof.KernelIdealProtocol

/-!
# One copy of a half

Device `c` copies half `g` of its own sums into the landing half of its neighbour's buffer. What lands there is what the
neighbour's buffer is to hold in slot 1.
-/

@[expose] public section

set_option maxRecDepth 16384

noncomputable section

namespace Cert.KernelIdeal.Send

open Cert.KernelIdeal Cert.KernelIdeal.Gen Cert.KernelIdeal.Partial Cert.KernelIdeal.Protocol

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (Bl : Dev nD → Blocks F)

/-- A half, owned through the copy's own view of it. -/
theorem qPts_eq (c : Dev nD) (s g : Fin 2) (f : Buf (Elt F) (sumsM.view.loc (c : Thread nD τ))) :
    (qPts c s g f : sProp 𝕄) = ((quarterM s g).view.loc (c : Thread nD τ) ↦[(quarterM s g).view.set]{fullShare} f) :=
  congrArg (fun S => (sumsM.view.loc (c : Thread nD τ) ↦[S]{fullShare} f : sProp 𝕄)) (quarterM_set s g).symm

/-- Slot 1 of the neighbour's buffer is slot 0 of the device's own. -/
theorem sums_across (c : Dev nD) (g : Fin 2) (x : S4x8x65.Idx) :
    sums Bl c ((quarterM 0 g).view.emb x) = sums Bl (peer c) ((quarterM 1 g).view.emb x) := by
  set r : (quarter 0 g).shape.Idx := Shape.reshapeEquiv (squeezes_S1x4x8x65_S4x8x65).numel_eq x with hr
  have h0 : (r 0).val < 1 := (r 0).isLt
  unfold sums pairOf
  refine (if_pos (show 0 + 1 * (r 0).val = 0 by omega)).trans (Eq.symm ((if_neg (show ¬ 1 + 1 * (r 0).val = 0 by omega)).trans ?_))
  rw [peer_peer]
  rfl

/-- What the copy leaves of the landing half. -/
theorem landed (c : Dev nD) (g : Fin 2) (fd : Buf (Elt F) (sumsM.view.loc (peer c : Thread nD τ)))
    (i : S2x8x8x65.Idx) (hi : i ∈ (quarterM 1 g).view.set) :
    (quarterM 1 g).view.write (Elt F) fd ((quarterM 0 g).view.read (Elt F) (sums Bl c)) Finset.univ i = sums Bl (peer c) i := by
  obtain ⟨x, -, rfl⟩ := Finset.mem_map.mp hi
  exact (View.write_emb_of_mem (Val := Elt F) (v := (quarterM 1 g).view) fd _ (Finset.mem_univ x)).trans (sums_across Bl c g x)

/-- The copy of half `g` to the neighbour. -/
theorem wp_send_half (K : GSem nD τ sig → ℕ) (c n : Dev nD) (hn : n = peer c) (g : Fin 2)
    {hsc : (quarterM 1 g : Memref sig (Dev.tc n : Thread nD τ).2.kind .vmem S4x8x65 .f32).view.ref.isScScratch = false}
    {hsrc : (quarterM 0 g).view.WordExact} {hdst : (quarterM 1 g).view.WordExact}
    {hsem : DmaTarget.Typed .vmem (.dma (recvS g)) (.remote (Dev.tc n : Thread nD τ) (quarterM 1 g) (.dma (sendS g)) hsc)}
    {α : Type} {Q : α → sProp 𝕄} {k : PUnit → Prog (TpuEff nD τ sig (Elt F) Λ₀ .tc) α}
    (fd : Buf (Elt F) (sumsM.view.loc (peer c : Thread nD τ))) (O O' : CellTallies nD τ sig Unit)
    (hO : O' = O + tallyAt (recvCell (peer c) g) () N) (W : Waits sig Unit) :
    iprop(cellInv ER (rd Bl) (K (sendCell c g)) (sendCell c g) ∗ cellInv ER (rd Bl) (K (recvCell (peer c) g)) (recvCell (peer c) g)
        ∗ qPts c 0 g (sums Bl c) ∗ qPts (peer c) 1 g fd ∗ owes (c : Thread nD τ) O' W
        ∗ dutyTok ER (sendCell c g) 0 () ∗ reached ER (sendCell c g) 0 ∗ dutyTok ER (recvCell (peer c) g) 0 () ∗ reached ER (recvCell (peer c) g) 0)
      ⊢ iprop(((cred (tallyAt (sendCell c g) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (quarterM 0 g) (.remote (Dev.tc n : Thread nD τ) (quarterM 1 g) (.dma (sendS g)) hsc) (.dma (recvS g)) hsrc hdst hsem) k) Q) := by
  subst hn
  rw [qPts_eq c 0 g, qPts_eq (peer c) 1 g]
  have hN : (quarterM 1 g).view.amount (.dma (recvS g) : SemLoc sig) = N := rfl
  have hr : τ.routes (c : Thread nD τ) (peer c : Thread nD τ) = true := by routes
  have hp1 : ((quarterM 0 g).view.loc (c : Thread nD τ) ↦[(quarterM 0 g).view.set]{fullShare} sums Bl c : sProp 𝕄)
      ⊢ (rd Bl).payload (sendCell c g) 0 () := by
    rw [payload_send]; unfold sendPay; rw [qPts_eq]
  have hp2 : ((quarterM 1 g).view.loc (peer c : Thread nD τ) ↦[(quarterM 1 g).view.set]{fullShare}
        ((quarterM 1 g).view.write (Elt F) fd ((quarterM 0 g).view.read (Elt F) (sums Bl c)) Finset.univ) : sProp 𝕄)
      ⊢ (rd Bl).payload (recvCell (peer c) g) 0 () := by
    rw [payload_recv]; unfold recvPay; rw [qPts_eq]
    exact Entails.of_eq (pointsTo_congr (landed Bl c g fd))
  exact Rounds.wp_send_pointsTo 𝒱₀ ER (rd Bl) (c : Thread nD τ) none (c' := (peer c : Thread nD τ))
    (src := quarterM 0 g) (dst := quarterM 1 g) (sS := .dma (sendS g)) (sem := .dma (recvS g)) (q := fullShare)
    (fs := sums Bl c) (fd := fd) (κ₁ := K (sendCell c g)) (κ₂ := K (recvCell (peer c) g)) (r₁ := 0) (r₂ := 0) (d₁ := ()) (d₂ := ())
    (by rw [duties_send]; exact Finset.mem_singleton_self _) (by rw [duties_recv]; exact Finset.mem_singleton_self _)
    () () N hN (amount_send Bl c g ()) (amount_recv Bl (peer c) g ()) O hO (W := W) hp1 hp2 hr

end Cert.KernelIdeal.Send

end
-- ==== Proof.KernelIdealBody.lean ====
module

public import proofs.«01_k».proof.Proof.KernelIdealContents
public import proofs.«01_k».proof.Proof.KernelIdealSend
public import proofs.«01_k».proof.Proof.Gen.KernelIdeal.Points
public import Idealize.ShloMosaic.Lib.Exec
public import Idealize.ShloMosaic.Lib.VecWindow

@[expose] public section

set_option maxRecDepth 16384

noncomputable section

namespace Cert.KernelIdeal.Body

open Cert.KernelIdeal Cert.KernelIdeal.Gen Cert.KernelIdeal.Partial Cert.KernelIdeal.Protocol Cert.KernelIdeal.Contents Cert.KernelIdeal.Send

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (Bl : Dev nD → Blocks F)

/-- A buffer of device `c`, whole, at contents `f`. -/
abbrev pts (c : Dev nD) (b : Ref sig .tc) (f : b.ty.Contents (Elt F)) : sProp 𝕄 := (Memref.whole b).view.loc (c : Thread nD τ) ↦{fullShare} f

/-- The five operand blocks in their staging buffers. -/
def operands (c : Dev nD) : sProp 𝕄 :=
  iprop(pts c cc0_stg0_0 (Bl c).q ∗ pts c cc0_stg1_0 (Bl c).k ∗ pts c cc0_stg2_0 (Bl c).v ∗ pts c cc0_stg3_0 (Bl c).bt ∗ pts c cc0_stg4_0 (Bl c).ln)

/-- The result of device `c`: its own sums and its neighbour's, combined. -/
def result (c : Dev nD) : Vec F S8x1x8x64 .f32 := combine (own c (Bl c)) (own (peer c) (Bl (peer c)))

def pre (K : GSem nD τ sig → ℕ) (c : Dev nD) (W : Waits sig Unit) : sProp 𝕄 :=
  iprop(opened Bl K c ∗ creds c ∗ levAts L lv ∗ owes (c : Thread nD τ) (O₀ c) W
    ∗ (∃ f, qPts c 0 0 f) ∗ (∃ f, qPts c 0 1 f) ∗ (∃ f, qPts c 1 0 f) ∗ (∃ f, qPts c 1 1 f)
    ∗ (∃ f, pts c cc0_scratch1 f) ∗ operands Bl c ∗ (∃ f, pts c cc0_stg5_0 f))

def post (c : Dev nD) : sProp 𝕄 :=
  iprop((semVal (barCell c) 0 ∗ semVal (sendCell c 0) 0 ∗ semVal (sendCell c 1) 0 ∗ semVal (recvCell c 0) 0 ∗ semVal (recvCell c 1) 0)
    ∗ (qPts c 0 0 (sums Bl c) ∗ qPts c 0 1 (sums Bl c) ∗ qPts c 1 0 (sums Bl c) ∗ qPts c 1 1 (sums Bl c))
    ∗ (∃ f, pts c cc0_scratch1 f) ∗ operands Bl c ∗ pts c cc0_stg5_0 (result Bl c) ∗ ∃ W, owes (c : Thread nD τ) 0 W)

/-! What a wait hands over, the half spelt by its corner. -/

theorem send_0 (c : Dev nD) (u : Unit) : (rd Bl).payload (sendCell c 0) 0 u
    = (sumsM.view.loc (c : Thread nD τ) ↦[sumsM.view.setOn (Rect.unit (s := S2x8x8x65) ![0, 0, 0, 0] S1x4x8x65.size inb_S2x8x8x65_S1x4x8x65_0_0_0_0).set]{fullShare} sums Bl c) :=
  payload_send Bl c 0 u
theorem send_1 (c : Dev nD) (u : Unit) : (rd Bl).payload (sendCell c 1) 0 u
    = (sumsM.view.loc (c : Thread nD τ) ↦[sumsM.view.setOn (Rect.unit (s := S2x8x8x65) ![0, 4, 0, 0] S1x4x8x65.size inb_S2x8x8x65_S1x4x8x65_0_4_0_0).set]{fullShare} sums Bl c) :=
  payload_send Bl c 1 u
theorem recv_0 (c : Dev nD) (u : Unit) : (rd Bl).payload (recvCell c 0) 0 u
    = (sumsM.view.loc (c : Thread nD τ) ↦[sumsM.view.setOn (Rect.unit (s := S2x8x8x65) ![1, 0, 0, 0] S1x4x8x65.size inb_S2x8x8x65_S1x4x8x65_1_0_0_0).set]{fullShare} sums Bl c) :=
  payload_recv Bl c 0 u
theorem recv_1 (c : Dev nD) (u : Unit) : (rd Bl).payload (recvCell c 1) 0 u
    = (sumsM.view.loc (c : Thread nD τ) ↦[sumsM.view.setOn (Rect.unit (s := S2x8x8x65) ![1, 4, 0, 0] S1x4x8x65.size inb_S2x8x8x65_S1x4x8x65_1_4_0_0).set]{fullShare} sums Bl c) :=
  payload_recv Bl c 1 u

attribute [local sl_rounds] duties_send duties_recv send_0 send_1 recv_0 recv_1

theorem slab_inb (s : Fin 2) (h : Fin 8) : ∀ x, (![s.val, h.val, 0, 0] : Fin 4 → ℕ) x + S1x1x8x65.size x ≤ S2x8x8x65.size x := by
  revert s h; decide

/-- Slab `h` of slot `s`, as a wait leaves the buffer. -/
abbrev slabRead (c : Dev nD) (s : Fin 2) (h : Fin 8) : Vec F S1x1x8x65 .f32 :=
  sumsM.view.readAt (Elt F) (Rect.unit (s := S2x8x8x65) ![s.val, h.val, 0, 0] S1x1x8x65.size (slab_inb s h)).toLoadRect (sums Bl c)

/-- The store of head `h` of the output. -/
def outPiece (c : Dev nD) (h : Fin 8) : View.Piece (Elt F) S8x1x8x64 .f32 :=
  ⟨Rect.unit ![0, 0, h.val, 0] S8x1x1x64.size (head_inb h), k0_pay46 (slabRead Bl c 0 h) (slabRead Bl c 1 h)⟩

/-- The eight stores of the output leave the result. -/
theorem filled_out (c : Dev nD) (f : ((Memref.whole cc0_stg5_0).view).ty.Contents (Elt F)) :
    (Memref.whole cc0_stg5_0).view.writes (Elt F) f [outPiece Bl c 7, outPiece Bl c 6, outPiece Bl c 5, outPiece Bl c 4,
        outPiece Bl c 3, outPiece Bl c 2, outPiece Bl c 1, outPiece Bl c 0] = result Bl c := by
  refine (heads f (fun h => k0_pay46 (slabRead Bl c 0 h) (slabRead Bl c 1 h))).trans ?_
  funext i
  exact congrFun (congrArg₂ k0_pay46 ((read_slab 0 (i 2) _ _ _).trans (by rw [if_pos rfl])) ((read_slab 1 (i 2) _ _ _).trans (by rw [if_neg (by decide)]))) _

set_option maxHeartbeats 800000 in
theorem run (K : GSem nD τ sig → ℕ) (c : Dev nD) (W : Waits sig Unit) (Kt : PUnit → sProp 𝕄) :
    iprop(pre Bl K c W ∗ (post Bl c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            sumsM (Memref.isWhole_whole _) (Memref.whole cc0_scratch1) (Memref.isWhole_whole _) cc0_scratch2 cc0_scratch3) Kt := by
  simp only [cc0_body_eq_skeleton]; unfold cc0_body_skel
  simp only [k0_part15_eq_skeleton]; unfold k0_part15_skel
  simp only [k0_part1_eq_skeleton]; unfold k0_part1_skel
  simp only [k0_part2_eq_skeleton, k0_part3_eq_skeleton, k0_part4_eq_skeleton, k0_part5_eq_skeleton, k0_part6_eq_skeleton, k0_part7_eq_skeleton, k0_part8_eq_skeleton,
    k0_part9_eq_skeleton, k0_part10_eq_skeleton, k0_part11_eq_skeleton, k0_part12_eq_skeleton, k0_part13_eq_skeleton, k0_part14_eq_skeleton]
  simp only [semSignalWord, semWaitWord, Prog.lift, Prog.bind_op, Prog.bind_ret, Prog.pure_eq_ret, wp_deviceId]
  unfold pre opened cellInvs payToks creds operands
  iintro ⟨⟨⟨⟨#HIbar, #HIs0, #HIs1, #HIr0, #HIr1, #HIbarP, #HIr0P, #HIr1P⟩, HatB, HatS0, HatS1, HatR0, HatR1, #HrBP, #HrS0, #HrS1, #HrR0, #HrR1, HtBP, HtR0P, HtR1P, HtS0, HtS1⟩,
    ⟨HcB, HcR0, HcR1⟩, #Hlev, HO, ⟨%f00, H00⟩, ⟨%f01, H01⟩, ⟨%f10, H10⟩, ⟨%f11, H11⟩, ⟨%fw, Hw⟩, ⟨Hq, Hk, Hv, Hbt, Hln⟩, ⟨%fo, Ho⟩⟩, Hpost⟩
  simp only [dev1_eq c]
  iapply (Rounds.wp_signal 𝒱₀ ER (rd Bl) (c : Thread nD τ) none (dst := (peer c : Thread nD τ)) (κ := K (barCell (peer c)))
      (by rw [duties_bar]; exact Finset.mem_singleton_self _) ((amount_bar Bl (peer c) ()).trans (by decide)) () (O₁ c) rfl)
    $$ [HO HtBP H10 H11]
  · isplitr; · iexact HIbarP
    isplitl [HO]; · iexact HO
    isplitl [HtBP]; · iexact HtBP
    isplitl [H10 H11]
    · rw [payload_bar]; unfold barPay; rw [peer_peer]
      isplitl [H10]; · iexists f10; iexact H10
      isplitl [H11]; · iexists f11; iexact H11
      isplitr; · iexact HrR0
      iexact HrR1
    · iexact HrBP
  iintro HO
  iapply (Rounds.wp_wait_rest_token 𝒱₀ ER (rd Bl) (c : Thread nD τ) none (κ := K (barCell c))
      (wpE_semWait_eq 𝒱₀ (c : Thread nD τ) none Set.univ) (Set.mem_univ _) () (O := O₁ c) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar Bl c)) $$ Hpay
  unfold barPay
  icases Hp with ⟨⟨%p0, HP0⟩, ⟨%p1, HP1⟩, #HrR0', #HrR1'⟩
  unfold qPts
  rw [show quarter 0 0 = Rect.unit (s := S2x8x8x65) ![0, 0, 0, 0] S1x4x8x65.size inb_S2x8x8x65_S1x4x8x65_0_0_0_0 from rfl,
    show quarter 0 1 = Rect.unit (s := S2x8x8x65) ![0, 4, 0, 0] S1x4x8x65.size inb_S2x8x8x65_S1x4x8x65_0_4_0_0 from rfl]
  sl_exec
  have hw : run.sl.v182 Bl c = weights c (Bl c) := weights_read c (Bl c) _ _
  have hl : run.sl.r_10 Bl c = logWeights c (Bl c) :=
    congrArg (k0_pay16 (iota .tc S64x1024 32 [0] iota_S64x1024_d0_w32) (iota .tc S64x1024 32 [1] iota_S64x1024_d1_w32) 16#32 k0_pay14 k0_pay15 (1#1)) hw
  have hs0 : run.sl.r_11 Bl c = score (Bl c) 0 := congrArg₂ k0_pay17 (read_key (Bl c) 0 _) (read_query (Bl c) 0 _)
  have hs1 : run.sl.r_12 Bl c = score (Bl c) 1 := congrArg₂ k0_pay17 (read_key (Bl c) 1 _) (read_query (Bl c) 1 _)
  have hs2 : run.sl.r_14 Bl c = score (Bl c) 2 := congrArg₂ k0_pay17 (read_key (Bl c) 2 _) (read_query (Bl c) 2 _)
  have hs3 : run.sl.r_15 Bl c = score (Bl c) 3 := congrArg₂ k0_pay17 (read_key (Bl c) 3 _) (read_query (Bl c) 3 _)
  have hs4 : run.sl.r_16 Bl c = score (Bl c) 4 := congrArg₂ k0_pay17 (read_key (Bl c) 4 _) (read_query (Bl c) 4 _)
  have hs5 : run.sl.r_17 Bl c = score (Bl c) 5 := congrArg₂ k0_pay17 (read_key (Bl c) 5 _) (read_query (Bl c) 5 _)
  have hs6 : run.sl.r_18 Bl c = score (Bl c) 6 := congrArg₂ k0_pay17 (read_key (Bl c) 6 _) (read_query (Bl c) 6 _)
  have hk7 : run.sl.r_19 Bl c = keyHead (Bl c) 7 := read_key (Bl c) 7 _
  have hq7 : (Memref.whole cc0_stg0_0).view.readAt (Elt F) (Rect.unit (s := S8x1x8x64) ![0, 0, 7, 0] S8x1x1x64.size inb_S8x1x8x64_S8x1x1x64_0_0_7_0).toLoadRect (Bl c).q
    = queryHead (Bl c) 7 := read_query (Bl c) 7 _
  have hv : (Memref.whole cc0_stg2_0).view.readAt (Elt F) (Rect.unit (s := S1024x512) ![0, 0] S1024x512.size inb_S1024x512_S1024x512_0_0).toLoadRect (Bl c).v
    = (Bl c).v := read_value (Bl c) _
  have hP : run.sl.r_20 Bl c = probs c (Bl c) := by
    unfold run.sl.r_20 probs
    rw [hl, hs0, hs1, hs2, hs3, hs4, hs5, hs6, hk7, hq7]
  have hV : run.sl.r_21 Bl c = k0_pay25 (Bl c).v := by
    unfold run.sl.r_21
    rw [hv]
  have h0 : run.sl.r_22 Bl c = half c (Bl c) 0 := by
    unfold run.sl.r_22 half
    rw [hl, hs0, hs1, hs2, hs3, hs4, hs5, hs6, hk7, hq7, hv, if_pos rfl]
  have h1 : k0_pay36 (run.sl.r_20 Bl c) (run.sl.r_21 Bl c) = half c (Bl c) 1 := by
    unfold half
    rw [hP, hV, if_neg (by decide)]
  ihave H00 := (Entails.of_eq (pointsTo_congr (filled_own 0 c (Bl c) (run.sl.r_22 Bl c) h0 (own (peer c) (Bl (peer c))) f00))) $$ H00
  iapply (wp_send_half Bl K c _ (dev2_eq c) 0 p0 (tallyAt (recvCell (peer c) 1) () N) (O₁ c) rfl
      (insert (SemLoc.reg (SemArray.scalar (sig.barrier 0 rfl) : Sems sig S_).sem, ()) W)) $$ [H00 HP0 HO HtS0 HtR0P]
  · isplitr; · iexact HIs0
    isplitr; · iexact HIr0P
    isplitl [H00]; · iexact H00
    isplitl [HP0]; · iexact HP0
    isplitl [HO]; · iexact HO
    isplitl [HtS0]; · iexact HtS0
    isplitr; · iexact HrS0
    isplitl [HtR0P]; · iexact HtR0P
    iexact HrR0'
  iintro ⟨HcS0, HO⟩
  sl_exec
  ihave H01 := (Entails.of_eq (pointsTo_congr (filled_own 1 c (Bl c) (k0_pay36 (run.sl.r_20 Bl c) (run.sl.r_21 Bl c)) h1 (own (peer c) (Bl (peer c))) f01))) $$ H01
  iapply (wp_send_half Bl K c _ (dev3_eq c) 1 p1 0 (tallyAt (recvCell (peer c) 1) () N) (zero_add _).symm
      (insert (SemLoc.reg (SemArray.scalar (sig.barrier 0 rfl) : Sems sig S_).sem, ()) W)) $$ [H01 HP1 HO HtS1 HtR1P]
  · isplitr; · iexact HIs1
    isplitr; · iexact HIr1P
    isplitl [H01]; · iexact H01
    isplitl [HP1]; · iexact HP1
    isplitl [HO]; · iexact HO
    isplitl [HtS1]; · iexact HtS1
    isplitr; · iexact HrS1
    isplitl [HtR1P]; · iexact HtR1P
    iexact HrR1'
  iintro ⟨HcS1, HO⟩
  sl_exec
  ihave Ho := (Entails.of_eq (pointsTo_congr (fun i _ => congrFun (filled_out Bl c fo) i))) $$ Ho
  rw [wp_ret]
  imod (close Bl (K (barCell c)) (barCell c)) $$ [HatB] with HzB
  · isplitr; · iexact HIbar
    iexact HatB
  imod (close Bl (K (sendCell c 0)) (sendCell c 0)) $$ [HatS0] with HzS0
  · isplitr; · iexact HIs0
    iexact HatS0
  imod (close Bl (K (sendCell c 1)) (sendCell c 1)) $$ [HatS1] with HzS1
  · isplitr; · iexact HIs1
    iexact HatS1
  imod (close Bl (K (recvCell c 0)) (recvCell c 0)) $$ [HatR0] with HzR0
  · isplitr; · iexact HIr0
    iexact HatR0
  imod (close Bl (K (recvCell c 1)) (recvCell c 1)) $$ [HatR1] with HzR1
  · isplitr; · iexact HIr1
    iexact HatR1
  imodintro
  iapply Hpost
  unfold post operands
  isplitl [HzB HzS0 HzS1 HzR0 HzR1]
  · isplitl [HzB]; · iexact HzB
    isplitl [HzS0]; · iexact HzS0
    isplitl [HzS1]; · iexact HzS1
    isplitl [HzR0]; · iexact HzR0
    iexact HzR1
  isplitl [HatS0_pay1 HatS1_pay1 HatR0_pay1 HatR1_pay1]
  · isplitl [HatS0_pay1]; · iexact HatS0_pay1
    isplitl [HatS1_pay1]; · iexact HatS1_pay1
    isplitl [HatR0_pay1]; · iexact HatR0_pay1
    iexact HatR1_pay1
  isplitl [Hw]; · iexists _; iexact Hw
  isplitl [Hq Hk Hv Hbt Hln]
  · isplitl [Hq]; · iexact Hq
    isplitl [Hk]; · iexact Hk
    isplitl [Hv]; · iexact Hv
    isplitl [Hbt]; · iexact Hbt
    iexact Hln
  isplitl [Ho]; · iexact Ho
  iexists _; iexact HO

end Cert.KernelIdeal.Body

end
-- ==== Proof.KernelIdealRegion.lean ====
module

public import proofs.«01_k».proof.Proof.KernelIdealBody
public import proofs.«01_k».proof.Proof.Gen.KernelIdeal.Launch
public import Idealize.ShloMosaic.Lib.Pipeline.RegionTalk
public import Idealize.ShloMosaic.Lib.Pipeline.ValueKit.Geometry
public import Idealize.ShloMosaic.Lib.Tactic

/-!
# The kernel's region on one device

The region is entered with the six arrays as the host operations leave them. Its one point fetches the five operand
arrays whole, runs the body, and writes the result array whole. The buffer of sums enters whole and is dealt to the body
in four quarters; the four scoped cells are opened on entry and come back closed.
-/

@[expose] public section

set_option maxRecDepth 16384

noncomputable section

namespace Cert.KernelIdeal.Region

open Cert.KernelIdeal Cert.KernelIdeal.Gen Cert.KernelIdeal.Partial Cert.KernelIdeal.Protocol Cert.KernelIdeal.Body

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! ## The arrays before and after the region -/

/-- Device `c`'s buffers as launched. -/
abbrev V₀ (c : Dev nD) : Valuation τ sig (Elt F) := fun b => m (c, b)
/-- Device `c`'s buffers when the region is entered. -/
def V₁ (c : Dev nD) : Valuation τ sig (Elt F) := StableHlo.after hostOps0 (V₀ m c)

/-- The five operand blocks of device `c`. -/
def blocks (c : Dev nD) : Blocks F where
  q := V₁ m c main_arg0
  k := V₁ m c main_v1
  v := V₁ m c main_v2
  bt := V₁ m c main_arg3
  ln := V₁ m c main_arg4

/-- Device `c`'s buffers when the region is left. -/
def V₂ (c : Dev nD) : Valuation τ sig (Elt F) := Function.update (V₁ m c) (Proc.devRef .tc main_v3) (result (blocks m) c)

theorem V₂_v3 (c : Dev nD) : V₂ m c main_v3 = result (blocks m) c := Function.update_self ..
theorem V₂_of_ne (c : Dev nD) (b : Ref sig .tc) (h : Proc.devRef (τ := τ) .tc b ≠ Proc.devRef .tc main_v3) : V₂ m c b = V₁ m c b :=
  Function.update_of_ne h ..

/-! ## The buffer of sums in quarters -/

abbrev slot (s g : Fin 2) : Finset S2x8x8x65.Idx := sumsM.view.setOn (quarter s g).set

theorem quarters_cover : (Finset.univ : Finset (Fin 2 × Fin 2)).biUnion (fun p => slot p.1 p.2) = Finset.univ := by
  ext i
  simp only [Finset.mem_biUnion, Finset.mem_univ, true_and, iff_true]
  have h0 : (i 0).val < 2 := (i 0).isLt
  have h1 : (i 1).val < 8 := (i 1).isLt
  exact ⟨(⟨(i 0).val, h0⟩, ⟨(i 1).val / 4, by omega⟩), mem_quarter.mpr ⟨rfl, rfl⟩⟩

theorem quarters_disjoint : ∀ p ∈ (Finset.univ : Finset (Fin 2 × Fin 2)), ∀ p' ∈ (Finset.univ : Finset (Fin 2 × Fin 2)), p ≠ p' →
    Disjoint (slot p.1 p.2) (slot p'.1 p'.2) := by
  intro p _ p' _ hp
  rw [Finset.disjoint_left]
  intro i h h'
  obtain ⟨a0, a1⟩ := mem_quarter.mp h
  obtain ⟨b0, b1⟩ := mem_quarter.mp h'
  exact hp (Prod.ext (Fin.ext (a0.symm.trans b0)) (Fin.ext (a1.symm.trans b1)))

/-- The buffer of sums, whole, is its four quarters. -/
theorem sums_split (c : Dev nD) (f : Buf (Elt F) (sumsM.view.loc (c : Thread nD τ))) :
    (pts c cc0_scratch0 f : sProp 𝕄) = iprop(qPts c 0 0 f ∗ qPts c 0 1 f ∗ qPts c 1 0 f ∗ qPts c 1 1 f) := by
  have h := pointsTo_biUnion (ℓ := sumsM.view.loc (c : Thread nD τ)) (q := fullShare) (f := f) (Ix := Unit) (Name := ℕ) (U := UU) (Lvl := ℕ)
    Finset.univ (fun p : Fin 2 × Fin 2 => slot p.1 p.2) quarters_disjoint
  rw [quarters_cover] at h
  refine h.trans ?_
  exact bigSep_univ_eq_bigSepL [(0, 0), (0, 1), (1, 0), (1, 1)] (by decide) (by decide) _

/-! ## The windows

Each window's one block is its whole array. -/

theorem read_blk0 (t : Fin cfg0.N) (f : main_arg0.ty.Contents (Elt F)) : (win0_0.blk t).view.read (Elt F) f = f := by
  funext y
  rw [View.read_apply]
  show f _ = f _
  refine congrArg f (funext fun a => Fin.ext ?_)
  blk_simp
  exact (congrArg (· + _) (Nat.zero_mul _)).trans (Nat.zero_add _)
theorem read_blk1 (t : Fin cfg0.N) (f : main_v1.ty.Contents (Elt F)) : (win0_1.blk t).view.read (Elt F) f = f := by
  funext y
  rw [View.read_apply]
  show f _ = f _
  refine congrArg f (funext fun a => Fin.ext ?_)
  blk_simp
  exact (congrArg (· + _) (Nat.zero_mul _)).trans (Nat.zero_add _)
theorem read_blk2 (t : Fin cfg0.N) (f : main_v2.ty.Contents (Elt F)) : (win0_2.blk t).view.read (Elt F) f = f := by
  funext y
  rw [View.read_apply]
  show f _ = f _
  refine congrArg f (funext fun a => Fin.ext ?_)
  blk_simp
  exact (congrArg (· + _) (Nat.zero_mul _)).trans (Nat.zero_add _)
theorem read_blk3 (t : Fin cfg0.N) (f : main_arg3.ty.Contents (Elt F)) : (win0_3.blk t).view.read (Elt F) f = f := by
  funext y
  rw [View.read_apply]
  show f _ = f _
  refine congrArg f (funext fun a => Fin.ext ?_)
  blk_simp
  exact (congrArg (· + _) (Nat.zero_mul _)).trans (Nat.zero_add _)
theorem read_blk4 (t : Fin cfg0.N) (f : main_arg4.ty.Contents (Elt F)) : (win0_4.blk t).view.read (Elt F) f = f := by
  funext y
  rw [View.read_apply]
  show f _ = f _
  refine congrArg f (funext fun a => Fin.ext ?_)
  blk_simp
  exact (congrArg (· + _) (Nat.zero_mul _)).trans (Nat.zero_add _)
theorem read_blk5 (t : Fin cfg0.N) (f : main_v3.ty.Contents (Elt F)) : (win0_5.blk t).view.read (Elt F) f = f := by
  funext y
  rw [View.read_apply]
  show f _ = f _
  refine congrArg f (funext fun a => Fin.ext ?_)
  blk_simp
  exact (congrArg (· + _) (Nat.zero_mul _)).trans (Nat.zero_add _)

/-! ## The proof data -/

/-- The counters of the region's own semaphores. -/
abbrev osem : Fin 4 → SemLoc sig := fun | 0 => .dma (sendS 0) | 1 => .dma (sendS 1) | 2 => .dma (recvS 0) | 3 => .dma (recvS 1)

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem ownSems_eq (c : Dev nD) : (Pipeline.ownSems0 osem c : sProp 𝕄)
    = iprop(semVal (sendCell c 0) 0 ∗ semVal (sendCell c 1) 0 ∗ semVal (recvCell c 0) 0 ∗ semVal (recvCell c 1) 0) :=
  bigSep_fin4 (fun k : Fin 4 => (semVal ((c : Thread nD τ), osem k) 0 : sProp 𝕄))

/-- The two scratch buffers at contents not chosen. -/
def scratch (c : Dev nD) : sProp 𝕄 := iprop((∃ f, pts c cc0_scratch0 f) ∗ (∃ f, pts c cc0_scratch1 f))

/-- What the launch hands the region. -/
def Tk (c : Dev nD) : sProp 𝕄 := iprop((∃ K, ghost (blocks m) K c) ∗ creds c)
/-- The same with the scoped cells open. -/
def Xk (c : Dev nD) : sProp 𝕄 := iprop((∃ K, opened (blocks m) K c) ∗ creds c ∗ levAts L lv)

def Φ₀ (c : Dev nD) : sProp 𝕄 := iprop(Xk m c ∗ scratch c ∗ ∃ r, prngReg c r)
def Φ₁ (c : Dev nD) : sProp 𝕄 := iprop(semVal (barCell c) 0 ∗ Pipeline.ownSems0 osem c ∗ scratch c ∗ ∃ r, prngReg c r)

def dat (c : Dev nD) : Dat τ (Elt F) Unit ℕ UU ℕ cfg0 c where
  A w := V₁ m c (Pipeline.arrRef spec0 w)
  after w _ := match w with
    | ⟨0, _⟩ => (blocks m c).q
    | ⟨1, _⟩ => (blocks m c).k
    | ⟨2, _⟩ => (blocks m c).v
    | ⟨3, _⟩ => (blocks m c).bt
    | ⟨4, _⟩ => (blocks m c).ln
    | ⟨5, _⟩ => result (blocks m) c
  Φ t := match t with
    | ⟨0, _⟩ => Φ₀ m c
    | ⟨_ + 1, _⟩ => Φ₁ c
  q _ := fullShare
  owed t := match t with
    | ⟨0, _⟩ => O₀ c
    | ⟨_ + 1, _⟩ => 0

theorem share_eq (c : Dev nD) (w : Fin cfg0.W) : (dat m c).share w = fullShare := by unfold Dat.share; split <;> rfl

theorem before_0 (c : Dev nD) (d) : (dat m c).before (0 : Fin 6) t0_0 d = (blocks m c).q := by
  unfold Dat.before; rw [if_pos (fetch0_0 t0_0)]; exact read_blk0 t0_0 (V₁ m c main_arg0)
theorem before_1 (c : Dev nD) (d) : (dat m c).before (1 : Fin 6) t0_0 d = (blocks m c).k := by
  unfold Dat.before; rw [if_pos (fetch0_1 t0_0)]; exact read_blk1 t0_0 (V₁ m c main_v1)
theorem before_2 (c : Dev nD) (d) : (dat m c).before (2 : Fin 6) t0_0 d = (blocks m c).v := by
  unfold Dat.before; rw [if_pos (fetch0_2 t0_0)]; exact read_blk2 t0_0 (V₁ m c main_v2)
theorem before_3 (c : Dev nD) (d) : (dat m c).before (3 : Fin 6) t0_0 d = (blocks m c).bt := by
  unfold Dat.before; rw [if_pos (fetch0_3 t0_0)]; exact read_blk3 t0_0 (V₁ m c main_arg3)
theorem before_4 (c : Dev nD) (d) : (dat m c).before (4 : Fin 6) t0_0 d = (blocks m c).ln := by
  unfold Dat.before; rw [if_pos (fetch0_4 t0_0)]; exact read_blk4 t0_0 (V₁ m c main_arg4)

/-! ## The body obligation -/

/-- A staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 :=
  iprop(Φ₀ m c ∗ (dat m c).owesAt () t0_0.castSucc
    ∗ (∃ d, stg c cc0_stg0_0 ((dat m c).before (0 : Fin 6) t0_0 d)) ∗ (∃ d, stg c cc0_stg1_0 ((dat m c).before (1 : Fin 6) t0_0 d))
    ∗ (∃ d, stg c cc0_stg2_0 ((dat m c).before (2 : Fin 6) t0_0 d)) ∗ (∃ d, stg c cc0_stg3_0 ((dat m c).before (3 : Fin 6) t0_0 d))
    ∗ (∃ d, stg c cc0_stg4_0 ((dat m c).before (4 : Fin 6) t0_0 d)) ∗ (∃ d, stg c cc0_stg5_0 ((dat m c).before (5 : Fin 6) t0_0 d)))

def bodyPost (c : Dev nD) : sProp 𝕄 :=
  iprop(Φ₁ c ∗ (dat m c).owesAt () t0_0.succ ∗ stg c cc0_stg0_0 (blocks m c).q ∗ stg c cc0_stg1_0 (blocks m c).k ∗ stg c cc0_stg2_0 (blocks m c).v
    ∗ stg c cc0_stg3_0 (blocks m c).bt ∗ stg c cc0_stg4_0 (blocks m c).ln ∗ stg c cc0_stg5_0 (result (blocks m) c))

theorem pts_stg (c : Dev nD) (b : Ref sig .tc) (X : b.ty.Contents (Elt F)) : (pts c b X : sProp 𝕄) ⊢ stg c b X := by
  iintro H
  iexists X; isplitr; · ipureintro; rfl
  iexact H

theorem stg_pts (c : Dev nD) (b : Ref sig .tc) {X Y : b.ty.Contents (Elt F)} (h : X = Y) : stg c b X ⊢ (pts c b Y : sProp 𝕄) := by
  subst h
  iintro ⟨%f, %h, H⟩; subst h; iexact H

theorem sound (c : Dev nD) (Kt : PUnit → sProp 𝕄) :
    iprop(bodyPre m c ∗ (bodyPost m c -∗ Kt ⟨⟩)) ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            sumsM (Memref.isWhole_whole _) (Memref.whole cc0_scratch1) (Memref.isWhole_whole _) cc0_scratch2 cc0_scratch3) Kt := by
  unfold bodyPre Φ₀ Xk scratch Dat.owesAt Pipeline.owesWithin
  rw [show (dat m c).owed t0_0.castSucc = O₀ c from rfl]
  iintro ⟨⟨⟨⟨⟨%K, Hg⟩, Hcr, Hlev⟩, ⟨⟨%f0, H0⟩, H1⟩, Hp⟩, ⟨%W, %hW, HO⟩, ⟨%d0, Hq⟩, ⟨%d1, Hk⟩, ⟨%d2, Hv⟩, ⟨%d3, Hb⟩, ⟨%d4, Hl⟩, ⟨%d5, %f5, %h5, Ho⟩⟩, HK⟩
  ihave H0' := (Entails.of_eq (sums_split c f0)) $$ H0
  icases H0' with ⟨H00, H01, H10, H11⟩
  iapply (run (blocks m) K c W Kt)
  isplitr [HK Hp]
  · unfold pre operands
    isplitl [Hg]; · iexact Hg
    isplitl [Hcr]; · iexact Hcr
    isplitl [Hlev]; · iexact Hlev
    isplitl [HO]; · iexact HO
    isplitl [H00]; · iexists f0; iexact H00
    isplitl [H01]; · iexists f0; iexact H01
    isplitl [H10]; · iexists f0; iexact H10
    isplitl [H11]; · iexists f0; iexact H11
    isplitl [H1]; · iexact H1
    isplitr [Ho]
    · isplitl [Hq]; · iapply (stg_pts c cc0_stg0_0 (before_0 m c d0)) $$ Hq
      isplitl [Hk]; · iapply (stg_pts c cc0_stg1_0 (before_1 m c d1)) $$ Hk
      isplitl [Hv]; · iapply (stg_pts c cc0_stg2_0 (before_2 m c d2)) $$ Hv
      isplitl [Hb]; · iapply (stg_pts c cc0_stg3_0 (before_3 m c d3)) $$ Hb
      iapply (stg_pts c cc0_stg4_0 (before_4 m c d4)) $$ Hl
    iexists f5; iexact Ho
  unfold Body.post operands
  iintro ⟨⟨Hz, Hs0, Hs1, Hr0, Hr1⟩, HQ, H1, ⟨Hq, Hk, Hv, Hb, Hl⟩, Ho, ⟨%W', HO⟩⟩
  iapply HK
  unfold bodyPost Φ₁ scratch Dat.owesAt Pipeline.owesWithin
  rw [show (dat m c).owed t0_0.succ = 0 from rfl, ownSems_eq]
  isplitr [HO Hq Hk Hv Hb Hl Ho]
  · isplitl [Hz]; · iexact Hz
    isplitl [Hs0 Hs1 Hr0 Hr1]
    · isplitl [Hs0]; · iexact Hs0
      isplitl [Hs1]; · iexact Hs1
      isplitl [Hr0] <;> iassumption
    isplitr [Hp]
    · isplitl [HQ]
      · iexists (sums (blocks m) c)
        rw [sums_split]
        iexact HQ
      iexact H1
    iexact Hp
  isplitl [HO]
  · iexists W'
    isplitr; · ipureintro; exact fun _ _ => Or.inl trivial
    iexact HO
  isplitl [Hq]; · iapply (pts_stg c cc0_stg0_0 _) $$ Hq
  isplitl [Hk]; · iapply (pts_stg c cc0_stg1_0 _) $$ Hk
  isplitl [Hv]; · iapply (pts_stg c cc0_stg2_0 _) $$ Hv
  isplitl [Hb]; · iapply (pts_stg c cc0_stg3_0 _) $$ Hb
  isplitl [Hl]; · iapply (pts_stg c cc0_stg4_0 _) $$ Hl
  iapply (pts_stg c cc0_stg5_0 _) $$ Ho

theorem obligation (c : Dev nD) : BodyObligation (dat m c) (defs₀ (F := F)) 𝒱₀ () Set.univ := fun t => by
  rw [show t = t0_0 from fin_N0 t]
  rw [show ∀ Φ : Fin cfg0.W → sProp 𝕄, bigSep Finset.univ Φ = _ from fun Φ => bigSep_W0 Φ, show ∀ Φ : Fin cfg0.W → sProp 𝕄, bigSep Finset.univ Φ = _ from fun Φ => bigSep_W0 Φ]
  simp only [owns_stg]
  show bodyPre m c ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            sumsM (Memref.isWhole_whole _) (Memref.whole cc0_scratch1) (Memref.isWhole_whole _) cc0_scratch2 cc0_scratch3) (fun _ => bodyPost m c)
  iintro H
  iapply (sound m c fun _ => bodyPost m c)
  isplitl [H]; · iexact H
  iintro H; iexact H

/-! ## The result array -/

theorem arrAt_out (c : Dev nD) : (dat m c).arrAt (5 : Fin 6) cfg0.N = result (blocks m) c :=
  (dat m c).arrAt_eq_of_cover (5 : Fin 6) _ (fun t _ => (read_blk5 t _).symm) fun i => ⟨t0_0, flush0_5 t0_0, by
    have e0 : (i 0).val < 8 := (i 0).isLt
    have e1 : (i 1).val < 1 := (i 1).isLt
    have e2 : (i 2).val < 8 := (i 2).isLt
    have e3 : (i 3).val < 64 := (i 3).isLt
    mem_blk
    rw [show win0_5.index t0_0 0 = 0 from rfl, show win0_5.index t0_0 1 = 0 from rfl, show win0_5.index t0_0 2 = 0 from rfl,
      show win0_5.index t0_0 3 = 0 from rfl]
    omega⟩

/-! ## Entering and leaving -/

theorem open_cells (c : Dev nD) : iprop(Tk m c ∗ Pipeline.ownSems0 osem c ∗ levAts L lv) ⊢ (|={Set.univ}=> Xk m c : sProp 𝕄) := by
  rw [ownSems_eq]
  unfold Tk Xk
  iintro ⟨⟨⟨%K, Hg⟩, Hcr⟩, ⟨Hs0, Hs1, Hr0, Hr1⟩, #Hlev⟩
  unfold ghost
  icases Hg with ⟨#HI, HatB, HoS0, HoS1, HoR0, HoR1, #HrP, Ht⟩
  unfold cellInvs
  icases HI with ⟨#HIbar, #HIs0, #HIs1, #HIr0, #HIr1, #HIbarP, #HIr0P, #HIr1P⟩
  imod (Rounds.cell_open ER (rd (blocks m)) (g := sendCell c 0) (Set.mem_univ (K (sendCell c 0)))) $$ [HoS0 Hs0] with ⟨HatS0, #HrS0⟩
  · isplitr; · iexact HIs0
    isplitl [HoS0] <;> iassumption
  imod (Rounds.cell_open ER (rd (blocks m)) (g := sendCell c 1) (Set.mem_univ (K (sendCell c 1)))) $$ [HoS1 Hs1] with ⟨HatS1, #HrS1⟩
  · isplitr; · iexact HIs1
    isplitl [HoS1] <;> iassumption
  imod (Rounds.cell_open ER (rd (blocks m)) (g := recvCell c 0) (Set.mem_univ (K (recvCell c 0)))) $$ [HoR0 Hr0] with ⟨HatR0, #HrR0⟩
  · isplitr; · iexact HIr0
    isplitl [HoR0] <;> iassumption
  imod (Rounds.cell_open ER (rd (blocks m)) (g := recvCell c 1) (Set.mem_univ (K (recvCell c 1)))) $$ [HoR1 Hr1] with ⟨HatR1, #HrR1⟩
  · isplitr; · iexact HIr1
    isplitl [HoR1] <;> iassumption
  imodintro
  isplitr [Hcr]
  · iexists K; unfold opened cellInvs
    isplitr
    · isplitr; · iexact HIbar
      isplitr; · iexact HIs0
      isplitr; · iexact HIs1
      isplitr; · iexact HIr0
      isplitr; · iexact HIr1
      isplitr; · iexact HIbarP
      isplitr; · iexact HIr0P
      iexact HIr1P
    isplitl [HatB]; · iexact HatB
    isplitl [HatS0]; · iexact HatS0
    isplitl [HatS1]; · iexact HatS1
    isplitl [HatR0]; · iexact HatR0
    isplitl [HatR1]; · iexact HatR1
    isplitr; · iexact HrP
    isplitr; · iexact HrS0
    isplitr; · iexact HrS1
    isplitr; · iexact HrR0
    isplitr; · iexact HrR1
    iexact Ht
  isplitl [Hcr]; · iexact Hcr
  iexact Hlev

abbrev adm : (p : Fin 1) → (pcfgs (F := F) p).Adm := fun p => (cfgs p).toPCfg_adm
def dats : (p : Fin 1) → (c : Dev nD) → Dat τ (Elt F) Unit ℕ UU ℕ (Pipeline.pin (pcfgs (F := F)) adm p) c
  | 0 => dat m

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem enter (c : Dev nD) : iprop(Pipeline.scopedRest (Pipeline.pin (pcfgs (F := F)) adm 0).spec c ∗ (∃ r, prngReg c r)
      ∗ StableHlo.held (c.tc : Thread nD τ) ∅ (V₁ m c) ∗ Xk m c) ⊢ (dats m 0 c).Φ 0 := by
  show iprop(Pipeline.scopedRest spec0 c ∗ (∃ r, prngReg c r) ∗ StableHlo.held (c.tc : Thread nD τ) ∅ (V₁ m c) ∗ Xk m c) ⊢ Φ₀ m c
  rw [scopedRest0_eq]
  unfold Φ₀ scratch
  iintro ⟨Hs, Hp, -, HX⟩
  isplitl [HX]; · iexact HX
  isplitl [Hs]; · iexact Hs
  iexact Hp

theorem leave (c : Dev nD) : (dats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ semVal (barCell c) 0) := by
  show Φ₁ c ⊢ iprop(Pipeline.scopedRest spec0 c ∗ (∃ r, prngReg c r) ∗ StableHlo.held (c.tc : Thread nD τ) ∅ (V₂ m c)
    ∗ Pipeline.ownSems0 osem c ∗ semVal (barCell c) 0)
  rw [scopedRest0_eq, show (StableHlo.held (c.tc : Thread nD τ) ∅ (V₂ m c) : sProp 𝕄) = BI.emp from BI.bigSep_empty]
  unfold Φ₁ scratch
  iintro ⟨Hz, Ho, Hs, Hp⟩
  isplitl [Hs]; · iexact Hs
  isplitl [Hp]; · iexact Hp
  isplitr; · iempintro
  isplitl [Ho]; · iexact Ho
  iexact Hz

/-- The buffers outside the scoped memory. -/
abbrev bufs : Finset (DevRef τ sig) := (StableHlo.tcRefs τ sig).filter fun b => ¬ b.isScoped
/-- Those among them that are no window's array. -/
abbrev others : Finset (DevRef τ sig) := bufs \ Pipeline.arrRefs (τ := τ) spec0

theorem staging_cut (c : Dev nD) (w : Fin 6) (s : Fin (win0 w).nbuf) : ¬ IsRecv (.dma ((win0 w).sem s)) := by
  revert w s; decide

theorem owed_cut (c : Dev nD) (t : Fin ((Pipeline.pin (pcfgs (F := F)) adm 0).N + 1)) (g : GSem nD τ sig) (u : Unit)
    (h : 0 < (dats m 0 c).owed t g u) : u ∈ L g ∧ (0 : ℕ) < lv g u := by
  obtain ⟨n, hn⟩ := t
  match n, hn with
  | 0, _ =>
    have h' : 0 < O₀ c g u := h
    rcases O₀_pos h' with rfl | rfl | rfl
    · exact ⟨by rw [L_tc]; exact Finset.mem_singleton_self _, by rw [lv_recv]; decide⟩
    · exact ⟨by rw [L_tc]; exact Finset.mem_singleton_self _, by rw [lv_recv]; decide⟩
    · exact ⟨by rw [L_tc]; exact Finset.mem_singleton_self _, by rw [lv_bar]; decide⟩
  | _ + 1, _ => exact absurd h (Nat.lt_irrefl 0)

theorem arr_in (c : Dev nD) (w : Fin 6) : (dats m 0 c).arrAt w 0 = V₁ m c (Proc.devRef .tc (Pipeline.arrRef spec0 w)) := rfl

theorem arr_out (c : Dev nD) (w : Fin 6) : (dats m 0 c).arrAt w cfg0.N = V₂ m c (Proc.devRef .tc (Pipeline.arrRef spec0 w)) := by
  match w with
  | 0 => exact ((dat m c).arrAt_in (0 : Fin 6) rfl _).trans (V₂_of_ne m c main_arg0 (by decide)).symm
  | 1 => exact ((dat m c).arrAt_in (1 : Fin 6) rfl _).trans (V₂_of_ne m c main_v1 (by decide)).symm
  | 2 => exact ((dat m c).arrAt_in (2 : Fin 6) rfl _).trans (V₂_of_ne m c main_v2 (by decide)).symm
  | 3 => exact ((dat m c).arrAt_in (3 : Fin 6) rfl _).trans (V₂_of_ne m c main_arg3 (by decide)).symm
  | 4 => exact ((dat m c).arrAt_in (4 : Fin 6) rfl _).trans (V₂_of_ne m c main_arg4 (by decide)).symm
  | 5 => exact (arrAt_out m c).trans (V₂_v3 m c).symm

set_option backward.isDefEq.respectTransparency.types false in
def reg : Pipeline.RegionSeg (pcfgs (F := F)) adm (dats m) () defs₀ 𝒱₀ L lv 0 :=
  Pipeline.RegionSeg.ofTalk (pcfgs (F := F)) adm (dats m) () defs₀ 𝒱₀ L lv 0 osem (by decide : Pipeline.OwnSemFacts spec0 osem)
    ∅ others (Finset.empty_subset _) kit rfl (fun c => (obligation m c).loose)
    (fun _ => 0) O₀ (fun _ => (zero_add _).symm) (fun _ => rfl) (fun _ => rfl) (fun c w => share_eq m c w)
    (V₁ m) (V₂ m)
    (fun c b hb => Function.update_of_ne (fun h => by
      subst h; revert hb
      exact (by decide : ¬ Proc.devRef (τ := τ) .tc main_v3 ∈ others \ ∅)) _ _)
    (Tk m) (fun c => semVal (barCell c) 0) (Xk m) (fun c => semVal (barCell c) 0) (open_cells m) (enter m) (leave m)
    (fun c => by iintro H; imodintro; iexact H)
    (fun _ => 0)
    ⟨fun c w s => by rw [L_tc]; exact Finset.mem_singleton_self _,
     fun c w s => le_of_eq (by dsimp only [lv]; rw [if_neg (fun h => by cases h), if_neg (staging_cut c w s)]),
     fun c t g u h => owed_cut m c t g u h⟩
    (fun _ => iprop(emp))
    (fun c w => arr_in m c w) (fun c w => arr_out m c w)

end Cert.KernelIdeal.Region

end
-- ==== Proof.KernelIdealLaunch.lean ====
module

public import proofs.«01_k».proof.Proof.KernelIdealRegion
public import Idealize.ShloMosaic.Lib.Pipeline.Regions

/-!
# The program on the four devices

The launch allocates every device's five cells: the barrier's with its counter, the four of the copies without, since
their semaphores live in the kernel's scope. Every device gets the tokens of the duties it performs: its neighbour's
barrier and receive cells and its own send cells. The program then runs device by device, and ends with the result
array at the combination of the sums of the device and of its neighbour, every argument as it was, and every counter at
zero.
-/

@[expose] public section

set_option maxRecDepth 16384

noncomputable section

namespace Cert.KernelIdeal.Launch

open Cert.KernelIdeal Cert.KernelIdeal.Gen Cert.KernelIdeal.Partial Cert.KernelIdeal.Protocol Cert.KernelIdeal.Body Cert.KernelIdeal.Region

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The two segments -/

/-- What rides beside the buffers up to the region. -/
def ride (c : Dev nD) : sProp 𝕄 := iprop(Tk m c ∗ (∃ r, prngReg c r) ∗ ∃ W, owes (c : Thread nD τ) (O₀ c) W)

theorem host_sub : ∀ op ∈ (hostOps0 : List (HloOp τ sig (Elt F))), op.bufs ⊆ bufs := by
  intro op h
  simp only [hostOps0, List.mem_cons, List.not_mem_nil, or_false] at h
  rcases h with rfl | rfl
  · show ({Proc.devRef .tc main_arg1, Proc.devRef .tc main_v1} : Finset (DevRef τ sig)) ⊆ bufs; decide
  · show ({Proc.devRef .tc main_arg2, Proc.devRef .tc main_v2} : Finset (DevRef τ sig)) ⊆ bufs; decide

theorem host_fresh : ∀ op ∈ (hostOps0 : List (HloOp τ sig (Elt F))), op.fresh = ∅ := by
  intro op h
  simp only [hostOps0, List.mem_cons, List.not_mem_nil, or_false] at h
  rcases h with rfl | rfl <;> rfl

def host : Pipeline.HostSeg (Name := ℕ) (U := UU) (pcfgs (F := F)) defs₀ 𝒱₀ L lv :=
  Pipeline.HostSeg.ofOps _ _ _ _ _ bufs hostOps0 host_sub host_fresh (V₀ m) (ride m)

theorem arrays_sub : Pipeline.arrRefs (τ := τ) spec0 ⊆ bufs := by decide

theorem bufs_split (c : Dev nD) (W : Valuation τ sig (Elt F)) : (StableHlo.held (c : Thread nD τ) bufs W : sProp 𝕄)
    = iprop(StableHlo.held (c : Thread nD τ) (Pipeline.arrRefs (τ := τ) spec0) W ∗ StableHlo.held (c : Thread nD τ) others W) :=
  StableHlo.held_sub_split (c.tc : Thread nD τ) arrays_sub W

theorem enter_region (c : Dev nD) : iprop(StableHlo.held (c : Thread nD τ) bufs (V₁ m c) ∗ ride m c) ⊢ (reg m).pre c := by
  show _ ⊢ iprop(StableHlo.held (c.tc : Thread nD τ) (Pipeline.arrRefs (τ := τ) spec0) (V₁ m c) ∗ (∃ r, prngReg c r)
    ∗ (StableHlo.held (c.tc : Thread nD τ) others (V₁ m c) ∗ emp) ∗ Tk m c ∗ ∃ Wd, owes (c : Thread nD τ) (0 + O₀ c) Wd)
  rw [bufs_split, zero_add]
  unfold ride
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem leave_region (c : Dev nD) : (reg m).post c
    ⊢ iprop((StableHlo.held (c : Thread nD τ) bufs (V₂ m c) ∗ semVal (barCell c) 0) ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) others (V₂ m c) ∗ emp) ∗ semVal (barCell c) 0
    ∗ ∃ Wd, owes (c : Thread nD τ) (0 : CellTallies nD τ sig Unit) Wd) ⊢ _
  rw [bufs_split]
  iintro ⟨Ha, -, ⟨Hr, -⟩, Hz, HO⟩
  isplitr [HO]
  · isplitr [Hz]
    · isplitl [Ha]; · iexact Ha
      iexact Hr
    iexact Hz
  iexact HO

abbrev segs : List (Pipeline.Seg (pcfgs (F := F)) adm (dats m) () defs₀ 𝒱₀ L lv) := [.host (host m), .region (reg m)]

theorem main_eq (c : Dev nD) : main (F := F) c = Pipeline.Seg.run (segs m) :=
  main_segs adm (dats m) () 𝒱₀ L lv (host m) (reg m) rfl c

/-! ## The cells and the tokens -/

theorem osem_inj : Function.Injective osem := by decide
theorem osem_ne_bar : ∀ k : Fin 4, osem k ≠ .reg barS := by decide

def barEmb : Dev nD ↪ GSem nD τ sig := ⟨fun c => barCell c, fun _ _ h => congrArg (fun g : GSem nD τ sig => g.1.1) h⟩
def copyEmb : Dev nD × Fin 4 ↪ GSem nD τ sig :=
  ⟨fun ck => ((ck.1 : Thread nD τ), osem ck.2), fun _ _ h =>
    Prod.ext (congrArg (fun g : GSem nD τ sig => g.1.1) h) (osem_inj (congrArg Prod.snd h))⟩

abbrev barCells : Finset (GSem nD τ sig) := Finset.univ.map barEmb
abbrev copyCells : Finset (GSem nD τ sig) := Finset.univ.map copyEmb

/-- The five semaphores of a device, each with one duty. -/
abbrev dutySem : Fin 5 → SemLoc sig :=
  fun | 0 => .reg barS | 1 => .dma (recvS 0) | 2 => .dma (recvS 1) | 3 => .dma (sendS 0) | 4 => .dma (sendS 1)
theorem dutySem_inj : Function.Injective dutySem := by decide

def tokens : Finset (GSem nD τ sig × ℕ × Unit) :=
  Finset.univ.map ⟨fun ck : Dev nD × Fin 5 => (((ck.1 : Thread nD τ), dutySem ck.2), 0, ()), fun _ _ h =>
    Prod.ext (congrArg (fun t : GSem nD τ sig × ℕ × Unit => t.1.1.1) h)
      (dutySem_inj (congrArg (fun t : GSem nD τ sig × ℕ × Unit => t.1.2) h))⟩

theorem cells_disjoint : Disjoint (barCells : Finset (GSem nD τ sig)) copyCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

theorem bar_mem (c : Dev nD) : barCell c ∈ (barCells ∪ copyCells : Finset (GSem nD τ sig)) :=
  Finset.mem_union_left _ (Finset.mem_map_of_mem barEmb (Finset.mem_univ c))
theorem copy_mem (c : Dev nD) (k : Fin 4) : ((c : Thread nD τ), osem k) ∈ (barCells ∪ copyCells : Finset (GSem nD τ sig)) :=
  Finset.mem_union_right _ (Finset.mem_map_of_mem copyEmb (Finset.mem_univ (c, k)))

/-- The launch element: the staging cells' and the exchange's. -/
def u₀ : UU :=
  (initOf (Pipeline.cells (Pipeline.pin (pcfgs (F := F)) adm) cellOf_inj) (Pipeline.launchToks (Pipeline.pin (pcfgs (F := F)) adm) cellOf_inj),
    launchOf barCells copyCells tokens)

/-- The exchange's launch element, all of it kept on device 0. -/
def parked (c : Dev nD) : sProp 𝕄 := if c = 0 then BI.own (ER (launchOf barCells copyCells tokens)) else iprop(emp)

theorem parked_all : bigSep Finset.univ (parked (F := F)) = (BI.own (ER (launchOf barCells copyCells tokens)) : sProp 𝕄) := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

/-- What every device may consult. -/
def records (κ : GSem nD τ sig → ℕ) : sProp 𝕄 :=
  iprop((bigSep (barCells ∪ copyCells) fun g => cellInv ER (rd (blocks m)) (κ g) g) ∗ bigSep barCells fun g => reached ER g 0)

instance records_persistent (κ : GSem nD τ sig → ℕ) : BI.Persistent (records m κ) := by unfold records; infer_instance

theorem inv_at (κ : GSem nD τ sig → ℕ) {g : GSem nD τ sig} (hg : g ∈ (barCells ∪ copyCells : Finset (GSem nD τ sig))) :
    (bigSep (barCells ∪ copyCells) fun g => (cellInv ER (rd (blocks m)) (κ g) g : sProp 𝕄)) ⊢ cellInv ER (rd (blocks m)) (κ g) g :=
  bigSep_elim hg

theorem reached_at (c : Dev nD) : (bigSep barCells fun g => (reached ER g 0 : sProp 𝕄)) ⊢ reached ER (barCell c) 0 :=
  bigSep_elim (Finset.mem_map_of_mem barEmb (Finset.mem_univ c))

/-- What device `c` alone holds. -/
def mine (c : Dev nD) : sProp 𝕄 :=
  iprop(atPos ER (barCell c) 0 ∅ 0
    ∗ (openTok ER (sendCell c 0) ∗ openTok ER (sendCell c 1) ∗ openTok ER (recvCell c 0) ∗ openTok ER (recvCell c 1)) ∗ payToks c)

theorem ghost_intro (κ : GSem nD τ sig → ℕ) (c : Dev nD) : iprop(records m κ ∗ mine c) ⊢ iprop(∃ K, ghost (blocks m) K c) := by
  unfold records mine ghost cellInvs
  iintro ⟨⟨#HI, #HR⟩, HaB, ⟨Ho0, Ho1, Ho2, Ho3⟩, Ht⟩
  iexists κ
  isplitr
  · isplitr; · iapply (inv_at m κ (bar_mem c)); iexact HI
    isplitr; · iapply (inv_at m κ (copy_mem c 0)); iexact HI
    isplitr; · iapply (inv_at m κ (copy_mem c 1)); iexact HI
    isplitr; · iapply (inv_at m κ (copy_mem c 2)); iexact HI
    isplitr; · iapply (inv_at m κ (copy_mem c 3)); iexact HI
    isplitr; · iapply (inv_at m κ (bar_mem (peer c))); iexact HI
    isplitr; · iapply (inv_at m κ (copy_mem (peer c) 2)); iexact HI
    iapply (inv_at m κ (copy_mem (peer c) 3)); iexact HI
  isplitl [HaB]; · iexact HaB
  isplitl [Ho0]; · iexact Ho0
  isplitl [Ho1]; · iexact Ho1
  isplitl [Ho2]; · iexact Ho2
  isplitl [Ho3]; · iexact Ho3
  isplitr; · iapply (reached_at (F := F) (peer c)); iexact HR
  iexact Ht

/-- The tokens of device `c`'s own cells. -/
def ownToks (c : Dev nD) : sProp 𝕄 :=
  iprop(dutyTok ER (barCell c) 0 () ∗ dutyTok ER (recvCell c 0) 0 () ∗ dutyTok ER (recvCell c 1) 0 ()
    ∗ dutyTok ER (sendCell c 0) 0 () ∗ dutyTok ER (sendCell c 1) 0 ())

theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem tokens_eq : bigSep tokens (fun x => (dutyTok ER x.1 x.2.1 x.2.2 : sProp 𝕄)) = bigSep Finset.univ fun c : Dev nD => ownToks c := by
  unfold tokens; rw [bigSep_map, bigSep_univ_prod]
  exact bigSep_congr fun c _ => by unfold ownToks; rw [bigSep_fin5]; rfl

/-- Barrier and receive tokens change hands between neighbours. -/
theorem exchange : (bigSep Finset.univ fun c : Dev nD => (ownToks c : sProp 𝕄)) ⊢ bigSep Finset.univ fun c : Dev nD => payToks c := by
  unfold ownToks payToks
  rw [bigSep_sep', bigSep_sep', bigSep_sep', bigSep_sep', bigSep_sep', bigSep_sep', bigSep_sep', bigSep_sep',
    bigSep_univ_equiv swap (fun c : Dev nD => (dutyTok ER (barCell c) 0 () : sProp 𝕄)),
    bigSep_univ_equiv swap (fun c : Dev nD => (dutyTok ER (recvCell c 0) 0 () : sProp 𝕄)),
    bigSep_univ_equiv swap (fun c : Dev nD => (dutyTok ER (recvCell c 1) 0 () : sProp 𝕄))]
  exact BI.Entails.refl _

/-! ## The credits at launch -/

theorem owed_bar (d c : Dev nD) : O₀ d (barCell c) () = if d = peer c then 1 else 0 := by
  unfold O₀ O₁
  rw [Pi.add_apply, Finsupp.add_apply, Pi.add_apply, Finsupp.add_apply, tallyAt_ne_cell (fun h => recv_ne_bar 1 (congrArg Prod.snd h).symm),
    tallyAt_ne_cell (fun h => recv_ne_bar 0 (congrArg Prod.snd h).symm), tallyAt_apply, Finsupp.zero_apply, Nat.zero_add, Nat.zero_add]
  by_cases h : d = peer c
  · subst h; rw [peer_peer, if_pos ⟨rfl, rfl⟩, if_pos rfl]
  · rw [if_neg (fun ⟨h1, _⟩ => h (by rw [← peer_peer d]; exact congrArg peer (Fin.ext (congrArg (fun g : GSem nD τ sig => g.1.1.val) h1)).symm)), if_neg h]

theorem recvS_ne : ∀ g g' : Fin 2, g ≠ g' → (SemLoc.dma (recvS g) : SemLoc sig) ≠ .dma (recvS g') := by decide

theorem tally_recv (d c : Dev nD) (g g' : Fin 2) :
    (tallyAt (recvCell (peer d) g') () N : CellTallies nD τ sig Unit) (recvCell c g) () = if d = peer c ∧ g = g' then N else 0 := by
  rw [tallyAt_apply]
  by_cases h : d = peer c
  · subst h
    rw [peer_peer]
    by_cases hg : g = g'
    · subst hg; rw [if_pos ⟨rfl, rfl⟩, if_pos ⟨rfl, rfl⟩]
    · rw [if_neg (fun ⟨h1, _⟩ => recvS_ne g g' hg (congrArg Prod.snd h1)), if_neg (fun h => hg h.2)]
  · rw [if_neg (fun ⟨h1, _⟩ => h (by rw [← peer_peer d]; exact congrArg peer (Fin.ext (congrArg (fun g : GSem nD τ sig => g.1.1.val) h1)).symm)),
      if_neg (fun h' => h h'.1)]

theorem owed_recv (d c : Dev nD) (g : Fin 2) : O₀ d (recvCell c g) () = if d = peer c then N else 0 := by
  unfold O₀ O₁
  rw [Pi.add_apply, Finsupp.add_apply, Pi.add_apply, Finsupp.add_apply, tally_recv, tally_recv,
    tallyAt_ne_cell (fun h => recv_ne_bar g (congrArg Prod.snd h)), Finsupp.zero_apply, Nat.add_zero]
  match g with
  | 0 =>
    rw [if_neg (fun h => absurd h.2 (by decide)), Nat.zero_add]
    exact if_congr (and_iff_left rfl) rfl rfl
  | 1 =>
    rw [if_neg (c := d = peer c ∧ (1 : Fin 2) = 0) (fun h => absurd h.2 (by decide)), Nat.add_zero]
    exact if_congr (and_iff_left rfl) rfl rfl

theorem credit_at {c : Dev nD} {sm : SemLoc sig} {n : ℕ} (h : ∀ d, O₀ d ((c : Thread nD τ), sm) () = if d = peer c then n else 0) :
    tallyOn ((c : Thread nD τ), sm) (launchCredit (Pipeline.owing O₀) 0 ((c : Thread nD τ), sm)) = (tallyAt ((c : Thread nD τ), sm) () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ (peer c) fun _ => n,
    if_pos (Finset.mem_univ _)]

theorem launch_creds (c : Dev nD) : (Pipeline.launchCred O₀ c : sProp 𝕄) ⊢ creds c := by
  unfold Pipeline.launchCred creds
  rw [bigSep_univ_at _ (SemLoc.reg barS), credit_at fun d => owed_bar d c]
  refine sep_mono_right ?_
  rw [BI.bigSep_erase (i := SemLoc.dma (recvS 0)) (Finset.mem_erase.mpr ⟨recv_ne_bar 0, Finset.mem_univ _⟩),
    credit_at fun d => owed_recv d c 0]
  refine sep_mono_right ?_
  rw [← credit_at fun d => owed_recv d c 1]
  exact bigSep_elim (Finset.mem_erase.mpr ⟨recvS_ne 1 0 (by decide), Finset.mem_erase.mpr ⟨recv_ne_bar 1, Finset.mem_univ _⟩⟩)

/-! ## The run -/

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem unscopedSems_bar (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What a device's program starts from. -/
abbrev first (c : Dev nD) : sProp 𝕄 := iprop(StableHlo.held (c : Thread nD τ) bufs (V₀ m c) ∗ ride m c)
/-- What it ends with. -/
abbrev final (c : Dev nD) : sProp 𝕄 := iprop(StableHlo.held (c : Thread nD τ) bufs (V₂ m c) ∗ semVal (barCell c) 0)

/-- A device's launch holdings apart from the exchange's ghost state. -/
def bundle (c : Dev nD) : sProp 𝕄 :=
  iprop(StableHlo.held (c : Thread nD τ) bufs (V₀ m c) ∗ creds c ∗ owes (c : Thread nD τ) (O₀ c) ∅ ∗ ∃ r, prngReg c r)

theorem first_intro (κ : GSem nD τ sig → ℕ) (c : Dev nD) : iprop(records m κ ∗ (mine c ∗ bundle m c)) ⊢ first m c := by
  unfold bundle first ride Tk
  iintro ⟨#HR, Hl, Hh, Hc, HO, Hp⟩
  isplitl [Hh]; · iexact Hh
  isplitl [Hl Hc]
  · isplitl [Hl]
    · iapply (ghost_intro m κ c)
      isplitr; · iexact HR
      iexact Hl
    iexact Hc
  isplitl [Hp]; · iexact Hp
  iexists ∅; iexact HO

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked c)) ∗ levAts L lv)
      ⊢ (|={Set.univ}=> bigSep Finset.univ (first m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ parked c)
      ⊢ (iprop(bundle m c ∗ (semVal (barCell c) 0 ∗ parked c)) : sProp 𝕄) := by
    rw [show unscopedBufs c (fun b => m ((c : Thread nD τ).loc b)) = StableHlo.held (c : Thread nD τ) bufs (V₀ m c) from unscopedBufs_held c (V₀ m c),
      unscopedSems_bar]
    unfold bundle
    iintro ⟨Hh, Hus, HO, Hcr, Hp, HG⟩
    ihave Hc := (launch_creds (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep copyCells (fun g => (openTok ER g : sProp 𝕄))
      ⊢ bigSep Finset.univ (fun c : Dev nD => iprop(openTok ER (sendCell c 0) ∗ openTok ER (sendCell c 1) ∗ openTok ER (recvCell c 0) ∗ openTok ER (recvCell c 1))) :=
    Entails.of_eq (by
      rw [bigSep_map, bigSep_univ_prod]
      exact bigSep_congr fun c _ => bigSep_fin4 (fun k : Fin 4 => (openTok ER ((c : Thread nD τ), osem k) : sProp 𝕄)))
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked c))
      ⊢ (bigSep Finset.univ fun c : Dev nD => iprop(bundle m c ∗ (semVal (barCell c) 0 ∗ parked c)) : sProp 𝕄) from bigSep_mono fun c _ => hcore c) $$ H
  ihave H2 := (Entails.of_eq (BI.bigSep_sep' _ _ _)) $$ H'; icases H2 with ⟨HB, H3⟩
  ihave H4 := (Entails.of_eq (BI.bigSep_sep' _ _ _)) $$ H3; icases H4 with ⟨Hv, HG⟩
  ihave Hu := (Entails.of_eq (parked_all (F := F))) $$ HG
  imod (Rounds.fund_launch ER (rd (blocks m)) cells_disjoint (fun g _ h => h) tokens) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(mine c ∗ bundle m c)) fun c _ => first_intro m κ c)
  isplitr
  · unfold records
    isplitr; · iexact Hinv
    iexact Hr
  iapply (Entails.of_eq (BI.bigSep_sep' _ _ _).symm)
  isplitr [HB]
  · unfold mine
    iapply (Entails.of_eq (BI.bigSep_sep' _ _ _).symm); isplitl [Hat]; · iapply hat $$ Hat
    iapply (Entails.of_eq (BI.bigSep_sep' _ _ _).symm); isplitl [Hopen]; · iapply hopen $$ Hopen
    iapply (exchange (F := F))
    iapply (Entails.of_eq (tokens_eq (F := F))) $$ Htok
  · iexact HB

theorem unscoped_bar : ∀ sm : SemLoc sig, sm.isScoped .tc = false → sm = .reg barS := by decide

theorem V₁_arg (c : Dev nD) (b : Ref sig .tc) (h1 : b ≠ main_v1) (h2 : b ≠ main_v2) : V₁ m c b = m ((c : Thread nD τ).loc b) :=
  StableHlo.after_of_forall_not_mem (b := Proc.devRef .tc b) _ _ (by
    intro op h
    simp only [hostOps0, List.mem_cons, List.not_mem_nil, or_false] at h
    rcases h with rfl | rfl
    · rw [StableHlo.reshape_writes, Finset.mem_singleton]; exact StableHlo.devRef_ne_of_ne h1
    · rw [StableHlo.reshape_writes, Finset.mem_singleton]; exact StableHlo.devRef_ne_of_ne h2)

theorem V₂_arg (c : Dev nD) (b : Ref sig .tc) (h1 : b ≠ main_v1) (h2 : b ≠ main_v2) (h3 : b ≠ main_v3) : V₂ m c b = m ((c : Thread nD τ).loc b) :=
  (V₂_of_ne m c b (StableHlo.devRef_ne_of_ne h3)).trans (V₁_arg m c b h1 h2)

/-- What one device's memory holds at the end. -/
def ends (c : Dev nD) (s : MemSt nD τ sig (Elt F)) : Prop :=
  s.mem ((c : Thread nD τ).loc main_v3) = result (blocks m) c
  ∧ s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)

abbrev whole (c : Dev nD) (b : Ref sig .tc) (W : Valuation τ sig (Elt F)) : sProp 𝕄 := ((c : Thread nD τ).loc b) ↦{fullShare} (W b)

theorem bufs_list (c : Dev nD) (W : Valuation τ sig (Elt F)) : (StableHlo.held (c : Thread nD τ) bufs W : sProp 𝕄)
    = iprop(whole c main_arg0 W ∗ whole c main_arg1 W ∗ whole c main_arg2 W ∗ whole c main_arg3 W ∗ whole c main_arg4 W
      ∗ whole c main_v1 W ∗ whole c main_v2 W ∗ whole c main_v3 W) := by
  unfold StableHlo.held
  rw [bigSep_eq_bigSepL_of_eq [Proc.devRef .tc main_arg0, Proc.devRef .tc main_arg1, Proc.devRef .tc main_arg2, Proc.devRef .tc main_arg3,
    Proc.devRef .tc main_arg4, Proc.devRef .tc main_v1, Proc.devRef .tc main_v2, Proc.devRef .tc main_v3] (by decide) (by decide)]
  rfl

set_option backward.isDefEq.respectTransparency.types false in
/-- From any memory with the counters at zero every fair run of the program ends; the result array of every device holds
    what it and its neighbour computed together, the arguments are unchanged and the counters are at zero. -/
theorem run_main : θ_run defs (onTc (τ := τ) (main (F := F))) (s₀ m ρ) (fun r => (∀ c : Dev nD, ends m c r.2) ∧ r.2.sem = fun _ => 0) :=
  Pipeline.θ_run_regions_kit_sems (pcfgs (F := F)) adm (dats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := parked) (u₀ := u₀)
    (hu₀ := by
      unfold u₀
      iintro Hu
      ihave H := (ownU_pair _ _) $$ Hu
      icases H with ⟨HP, HX⟩
      imodintro
      isplitl [HP]; · iexact HP
      rw [parked_all]; iexact HX)
    (T₀ := first m) (Tₙ := final m)
    (hch := ⟨fun c => .rfl, fun c => enter_region m c, fun c => leave_region m c⟩)
    (hinit := init m ρ)
    (QY := fun c s => ends m c s ∧ s.sem (barCell c) = 0)
    (hfin := fun c s' => by
      dsimp only [final]; rw [bufs_list]
      iintro ⟨⟨⟨H0, H1, H2, H3, H4, -, -, H5⟩, Hb⟩, HSI⟩
      icombine HSI H0 gives %h0
      icombine HSI H1 gives %h1
      icombine HSI H2 gives %h2
      icombine HSI H3 gives %h3
      icombine HSI H4 gives %h4
      icombine HSI H5 gives %h5
      icombine HSI Hb gives %hb
      imodintro
      isplitr
      · ipureintro
        refine ⟨⟨?_, ?_, ?_, ?_, ?_, ?_⟩, by simpa using hb⟩
        · exact (Buf.eq_of_forall_mem_univ h5).trans (V₂_v3 m c)
        · exact (Buf.eq_of_forall_mem_univ h0).trans (V₂_arg m c main_arg0 (by decide) (by decide) (by decide))
        · exact (Buf.eq_of_forall_mem_univ h1).trans (V₂_arg m c main_arg1 (by decide) (by decide) (by decide))
        · exact (Buf.eq_of_forall_mem_univ h2).trans (V₂_arg m c main_arg2 (by decide) (by decide) (by decide))
        · exact (Buf.eq_of_forall_mem_univ h3).trans (V₂_arg m c main_arg3 (by decide) (by decide) (by decide))
        · exact (Buf.eq_of_forall_mem_univ h4).trans (V₂_arg m c main_arg4 (by decide) (by decide) (by decide))
      iexact HSI)
    (hQ := fun s h hs => ⟨fun c => (h c).1, sem_eq_zero hs fun c sm hsm => by
        obtain rfl := unscoped_bar sm hsm
        exact (h c).2⟩)

end Cert.KernelIdeal.Launch

end
-- ==== Proof.ReferenceIdealValue.lean ====
module

public import proofs.«01_k».proof.Proof.Gen.ReferenceIdeal.Run
public import Idealize.ShloMosaic.Lib.Pointwise

/-!
# What the reference computes, over the extended reals

The reference's result read at an index: the pages gathered, the scaled dot products with the slots not in use at −∞, the
softmax over slots and tokens, and the sum of the values that it weights.
-/

@[expose] public section

set_option maxRecDepth 16384

noncomputable section

namespace Cert.ReferenceIdeal.Value

open Cert.ReferenceIdeal Cert.ReferenceIdeal.Gen Idealize.ShloMosaic Idealize.ShloMosaic.TcCoe

/-- The block table as the gather takes it: an entry below zero counts from the end. -/
def pages (bt : IVec S8x64 32) : IVec S8x64x1 32 :=
  broadcastInDim S8x64x1 ![0, 1] bcast_S8x64_S8x64x1_0_1
    (select (cmpi .slt bt (broadcastInDim S8x64 ![] bcast_S_S8x64 (constantI S_ 32 0#32)))
      (addi bt (broadcastInDim S8x64 ![] bcast_S_S8x64 (constantI S_ 32 128#32))) bt)

/-- The pages that the block table names. -/
def gathered (x : FVec Ideal S128x16x8x64 .bf16) (bt : IVec S8x64 32) : FVec Ideal S8x64x16x8x64 .f32 :=
  Host.gather gather_S128x16x8x64_S8x64x1_S8x64x16x8x64_234_0_n_n_0_2_116864 (extf .f32 x bitsLt_bf16_f32) (pages bt)

/-- The slots in use. -/
def used (ln : IVec S8 32) : IVec S8x8x64x16 1 :=
  broadcastInDim S8x8x64x16 ![0, 1, 2, 3] bcast_S8x1x64x1_S8x8x64x16_0_1_2_3
    (broadcastInDim S8x1x64x1 ![0, 2] bcast_S8x64_S8x1x64x1_0_2
      (cmpi .slt (broadcastInDim S8x64 ![0, 1] bcast_S1x64_S8x64_0_1 (broadcastInDim S1x64 ![1] bcast_S64_S1x64_1 (iotaInDim S64 32 0)))
        (broadcastInDim S8x64 ![0, 1] bcast_S8x1_S8x64_0_1 (broadcastInDim S8x1 ![0] bcast_S8_S8x1_0 ln))))

/-- The dot products of the query with the keys gathered. -/
def dots (q : FVec Ideal S8x1x8x64 .bf16) (K : FVec Ideal S8x64x16x8x64 .f32) : FVec Ideal S8x8x64x16 .f32 :=
  Host.dotGeneral dot_S8x8x64_S8x64x16x8x64_S8x8x64x16_2_4_n_12_01_03 none
    (extf .f32 (shapeCast _ q shapeCasts_S8x1x8x64_S8x8x64) bitsLt_bf16_f32) K

/-- The scaled dot products, −∞ at the slots that are not in use. -/
def scores (u : IVec S8x8x64x16 1) (x : FVec Ideal S8x8x64x16 .f32) : FVec Ideal S8x8x64x16 .f32 :=
  select u (mulf x (broadcastInDim S8x8x64x16 ![] bcast_S_S8x8x64x16 (constant S_ .f32 0x3E000000#32)))
    (broadcastInDim S8x8x64x16 ![] bcast_S_S8x8x64x16 (id (constant S_ .f32 0xFF800000#32)))

/-- The greatest score of a head of a sequence. -/
def greatest (x : FVec Ideal S8x8x64x16 .f32) : FVec Ideal S8x8 .f32 :=
  Host.reduce FloatOps.maximumf x (constant S_ .f32 0xFF800000#32) reducesTo_S8x8x64x16_S8x8_d2_3 h_S_

/-- An array over sequences and heads, at every slot and token. -/
def everywhere (x : FVec Ideal S8x8 .f32) : FVec Ideal S8x8x64x16 .f32 :=
  broadcastInDim S8x8x64x16 ![0, 1, 2, 3] bcast_S8x8x1x1_S8x8x64x16_0_1_2_3 (broadcastInDim S8x8x1x1 ![0, 1] bcast_S8x8_S8x8x1x1_0_1 x)

/-- The exponentials of the scores less the greatest. -/
def powers (x : FVec Ideal S8x8x64x16 .f32) : FVec Ideal S8x8x64x16 .f32 := Host.exp (subf x (everywhere (greatest x)))

/-- Their sums. -/
def sums (x : FVec Ideal S8x8x64x16 .f32) : FVec Ideal S8x8 .f32 :=
  Host.reduceAdd x (constant S_ .f32 0x00000000#32) reducesTo_S8x8x64x16_S8x8_d2_3 h_S_

/-- The values weighted by an array over slots and tokens. -/
def weighted (w : FVec Ideal S8x8x64x16 .f32) (V : FVec Ideal S8x64x16x8x64 .f32) : FVec Ideal S8x1x8x64 .f32 :=
  broadcastInDim S8x1x8x64 ![0, 2, 3] bcast_S8x8x64_S8x1x8x64_0_2_3
    (Host.dotGeneral dot_S8x8x64x16_S8x64x16x8x64_S8x8x64_23_12_n_4_01_03 none w V)

/-- The reference's result from its arguments. -/
def attend (q : FVec Ideal S8x1x8x64 .bf16) (k v : FVec Ideal S128x16x8x64 .bf16) (bt : IVec S8x64 32) (ln : IVec S8 32) :
    FVec Ideal S8x1x8x64 .f32 :=
  weighted (Host.divf (powers (scores (used ln) (dots q (gathered k bt)))) (everywhere (sums (powers (scores (used ln) (dots q (gathered k bt)))))))
    (gathered v bt)

/-- The reference's result is that. -/
theorem res_eq (m : (ℓ : Loc nD τ sig) → Buf (Elt Ideal) ℓ) (c : Dev nD) :
    res_main_v39 m c = attend (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  rfl

/-- The entry of a slot, as the gather takes it. -/
theorem pages_apply (bt : IVec S8x64 32) (b : Fin 8) (s : Fin 64) :
    pages bt (ix3 b s 0) = if (bt (ix2 b s)).toInt < 0 then bt (ix2 b s) + 128#32 else bt (ix2 b s) := by
  have h : pages bt (ix3 b s 0) = Scalar.select (IntOp.cmpi .slt (bt (ix2 b s)) 0#32) (IntOp.addi (bt (ix2 b s)) 128#32) (bt (ix2 b s)) := by
    pointwise [pages]
  rw [h]
  simp only [Scalar.select, IntOp.cmpi, IntOp.addi]
  by_cases c : (bt (ix2 b s)).toInt < 0 <;> simp [c, BitVec.slt]

/-- The page that the gather takes for a slot. -/
def page (bt : IVec S8x64 32) (b : Fin 8) (s : Fin 64) : Fin 128 := ⟨min (pages bt (ix3 b s 0)).toInt.toNat 127, by omega⟩

/-- A gathered element is the page's. -/
theorem gathered_apply (x : FVec Ideal S128x16x8x64 .bf16) (bt : IVec S8x64 32) (b : Fin 8) (s : Fin 64) (t : Fin 16) (h : Fin 8) (e : Fin 64) :
    gathered x bt (ix5 b s t h e) = x (ix4 (page bt b s) t h e) := by
  let G := gather_S128x16x8x64_S8x64x1_S8x64x16x8x64_234_0_n_n_0_2_116864
  let j : S8x64x16x8x64.Idx := ix5 b s t h e
  show x _ = x _
  refine congrArg x (funext fun a => Fin.ext ?_)
  show G.start j (pages bt) a + G.batchCoord j a + G.offCoord j a = _
  rw [GatherDims.batchCoord_eq_zero _ _ _ List.not_mem_nil]
  have hs : ∀ i, G.siIdx j i = ix3 b s 0 := by
    intro i
    obtain rfl : i = ⟨0, Nat.one_pos⟩ := Fin.ext (by have := i.isLt; change i.val < 1 at this; show i.val = 0; omega)
    funext b
    refine Fin.ext ?_
    match b with
    | ⟨0, _⟩ => rfl
    | ⟨1, _⟩ => rfl
    | ⟨2, _⟩ => rfl
  have hn (a : Fin 4) (ha : a ≠ 0) : G.start j (pages bt) a = 0 := by
    unfold GatherDims.start
    exact dif_neg fun x => ha (List.mem_singleton.mp x)
  have ho (a : Fin 4) (ha : a ≠ 0) : a ∈ G.sKept := (GatherDims.mem_sKept _ _).mpr ⟨fun x => ha (List.mem_singleton.mp x), List.not_mem_nil⟩
  have h0123 : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases h0123 with rfl | rfl | rfl | rfl
  · rw [GatherDims.offCoord_eq_zero _ _ _ (fun h => ((GatherDims.mem_sKept _ _).mp h).1 (List.mem_singleton.mpr rfl))]
    unfold GatherDims.start
    rw [dif_pos (show (0 : Fin 4) ∈ G.startIndexMap from List.mem_singleton.mpr rfl), hs]
    rfl
  · rw [hn 1 (by decide), Nat.zero_add]
    unfold GatherDims.offCoord
    rw [dif_pos (ho 1 (by decide))]
    rfl
  · rw [hn 2 (by decide), Nat.zero_add]
    unfold GatherDims.offCoord
    rw [dif_pos (ho 2 (by decide))]
    rfl
  · rw [hn 3 (by decide), Nat.zero_add]
    unfold GatherDims.offCoord
    rw [dif_pos (ho 3 (by decide))]
    rfl

/-- A slot is in use when it is below the sequence's length. -/
theorem used_apply (ln : IVec S8 32) (b h : Fin 8) (s : Fin 64) (t : Fin 16) :
    used ln (ix4 b h s t) = IntOp.cmpi .slt (BitVec.ofNat 32 s.val) (ln (ix1 b)) := by
  pointwise [used]

/-- A dot product. -/
theorem dots_apply (q : FVec Ideal S8x1x8x64 .bf16) (K : FVec Ideal S8x64x16x8x64 .f32) (b h : Fin 8) (s : Fin 64) (t : Fin 16) :
    dots q K (ix4 b h s t) = ∑ e : Fin 64, q (ix4 b 0 h e) * K (ix5 b s t h e) := by
  pointwise [dots]

/-- A score. -/
theorem scores_apply (u : IVec S8x8x64x16 1) (x : FVec Ideal S8x8x64x16 .f32) (i : S8x8x64x16.Idx) :
    scores u x i = if u i = 1#1 then x i * Ideal.ofBits .f32 0x3E000000#32 else ⊥ := by
  have h : (Ideal.ofBits .f32 0xFF800000#32) = ⊥ := by simp [Ideal.ofBits, Ideal.ieee]
  show Scalar.select (u i) (x i * Ideal.ofBits .f32 0x3E000000#32) (Ideal.ofBits .f32 0xFF800000#32) = _
  rw [h]
  rfl

/-- An array over sequences and heads, at a slot and token. -/
theorem everywhere_apply (x : FVec Ideal S8x8 .f32) (b h : Fin 8) (s : Fin 64) (t : Fin 16) : everywhere x (ix4 b h s t) = x (ix2 b h) := by
  pointwise [everywhere]

/-- The weighted values. -/
theorem weighted_apply (w : FVec Ideal S8x8x64x16 .f32) (V : FVec Ideal S8x64x16x8x64 .f32) (b h : Fin 8) (e : Fin 64) :
    weighted w V (ix4 b 0 h e) = ∑ s : Fin 64, ∑ t : Fin 16, w (ix4 b h s t) * V (ix5 b s t h e) := by
  pointwise [weighted]

/-- A sum over slots and tokens. -/
theorem sums_apply (x : FVec Ideal S8x8x64x16 .f32) (b h : Fin 8) : sums x (ix2 b h) = ∑ s : Fin 64, ∑ t : Fin 16, x (ix4 b h s t) := by
  pointwise [sums]

/-- A power. -/
theorem powers_apply (x : FVec Ideal S8x8x64x16 .f32) (b h : Fin 8) (s : Fin 64) (t : Fin 16) :
    powers x (ix4 b h s t) = Ideal.exp (x (ix4 b h s t) - greatest x (ix2 b h)) :=
  congrArg (fun y => Ideal.exp (x (ix4 b h s t) - y)) (everywhere_apply (greatest x) b h s t)

/-- The maximum of a list, taken from `r` on, is at least `r` and at least every element. -/
theorem le_foldl_max {ι : Type} (f : ι → EReal) (l : List ι) (r : EReal) :
    r ≤ l.foldl (fun r n => max r (f n)) r ∧ ∀ n ∈ l, f n ≤ l.foldl (fun r n => max r (f n)) r := by
  induction l generalizing r with
  | nil => exact ⟨le_rfl, by simp⟩
  | cons n l ih =>
    obtain ⟨h1, h2⟩ := ih (max r (f n))
    refine ⟨(le_max_left _ _).trans h1, fun k hk => ?_⟩
    rcases List.mem_cons.mp hk with rfl | hk
    · exact (le_max_right _ _).trans h1
    · exact h2 k hk

/-- The maximum of elements other than +∞ is not +∞. -/
theorem foldl_max_ne_top {ι : Type} (f : ι → EReal) (l : List ι) (r : EReal) (hr : r ≠ ⊤) (hf : ∀ n ∈ l, f n ≠ ⊤) :
    l.foldl (fun r n => max r (f n)) r ≠ ⊤ := by
  induction l generalizing r with
  | nil => exact hr
  | cons n l ih =>
    refine ih (max r (f n)) ?_ fun k hk => hf k (List.mem_cons_of_mem n hk)
    rcases max_choice r (f n) with e | e <;> rw [e]
    · exact hr
    · exact hf n List.mem_cons_self

/-- The greatest score is a real number, when no score is +∞ and some score is not −∞. -/
theorem greatest_real (x : FVec Ideal S8x8x64x16 .f32) (b h : Fin 8) (hx : ∀ s t, x (ix4 b h s t) ≠ ⊤) (s : Fin 64) (t : Fin 16)
    (hs : x (ix4 b h s t) ≠ ⊥) : ∃ m : ℝ, greatest x (ix2 b h) = (m : EReal) := by
  have hb : (Ideal.ofBits .f32 0xFF800000#32) = ⊥ := by simp [Ideal.ofBits, Ideal.ieee]
  let D := reducesTo_S8x8x64x16_S8x8_d2_3
  let l := (List.finRange S8x8x64x16.numel).filter fun n => D.drop (S8x8x64x16.rowMajor.symm n) = ix2 b h
  let f : Fin S8x8x64x16.numel → EReal := fun n => x (S8x8x64x16.rowMajor.symm n)
  have hg : greatest x (ix2 b h) = l.foldl (fun r n => max r (f n)) ⊥ := by
    rw [← hb]
    rfl
  have ht : greatest x (ix2 b h) ≠ ⊤ := by
    rw [hg]
    refine foldl_max_ne_top f l ⊥ bot_ne_top fun n hn => ?_
    have hd := of_decide_eq_true (List.mem_filter.mp hn).2
    have hi : S8x8x64x16.rowMajor.symm n = ix4 b h ((S8x8x64x16.rowMajor.symm n) 2) ((S8x8x64x16.rowMajor.symm n) 3) := by
      have h0 : (S8x8x64x16.rowMajor.symm n) 0 = b := Fin.ext (congrArg (fun i => (i 0).val) hd)
      have h1 : (S8x8x64x16.rowMajor.symm n) 1 = h := Fin.ext (congrArg (fun i => (i 1).val) hd)
      funext a
      match a with
      | ⟨0, _⟩ => exact h0
      | ⟨1, _⟩ => exact h1
      | ⟨2, _⟩ => rfl
      | ⟨3, _⟩ => rfl
    show x _ ≠ ⊤
    rw [hi]
    exact hx _ _
  have hl : greatest x (ix2 b h) ≠ ⊥ := by
    have hm : S8x8x64x16.rowMajor (ix4 b h s t) ∈ l := List.mem_filter.mpr ⟨List.mem_finRange _, decide_eq_true (by
      rw [Equiv.symm_apply_apply]
      funext a
      match a with
      | ⟨0, _⟩ => rfl
      | ⟨1, _⟩ => rfl)⟩
    have hle := (le_foldl_max f l ⊥).2 _ hm
    rw [← hg] at hle
    have hv : f (S8x8x64x16.rowMajor (ix4 b h s t)) = x (ix4 b h s t) := congrArg x (Equiv.symm_apply_apply _ _)
    rw [hv] at hle
    exact fun e => hs (le_bot_iff.mp (e ▸ hle))
  exact ⟨(greatest x (ix2 b h)).toReal, (EReal.coe_toReal ht hl).symm⟩

end Cert.ReferenceIdeal.Value

end
-- ==== Proof.Algebraic.lean ====
module

public import proofs.«01_k».proof.Defs
public import proofs.«01_k».proof.Proof.Attention
public import proofs.«01_k».proof.Proof.KernelIdealValue
public import proofs.«01_k».proof.Proof.KernelIdealLaunch
public import proofs.«01_k».proof.Proof.ReferenceIdealValue
public import proofs.«01_k».proof.Proof.Gen.Pre_usable_KernelIdeal

/-!
# The kernel computes the reference's attention

Both programs' results, at one head of one sequence, are the quotient of the two sums of `Proof.Attention`: the kernel's two
devices hold the two halves of the sums over the pages, and the reference's softmax is the quotient of the same sums.
-/

@[expose] public section

set_option maxRecDepth 16384

noncomputable section

namespace Cert.Algebraic

open Cert.Attention Idealize.ShloMosaic Idealize.ShloMosaic.TcCoe
open Idealize.SL.Sem

/-- A device's cut of the cache, with a row to a token and 64 columns to a head, read at an element. -/
theorem recast (x : Cert.KernelIdeal.S64x16x8x64.Idx → EReal) (hc : Cert.KernelIdeal.S64x16x8x64.ShapeCasts Cert.KernelIdeal.S1024x512) (p : Fin 64) (t : Fin 16) (h : Fin 8) (e : Fin 64) :
    shapeCast Cert.KernelIdeal.S1024x512 x hc (ix2 ⟨p.val * 16 + t.val, by omega⟩ ⟨64 * h.val + e.val, by omega⟩) = x (ix4 p t h e) := by
  pointwise

section

open Cert.KernelIdeal Cert.KernelIdeal.Gen Cert.KernelIdeal.Region

variable (m : (ℓ : Loc nD τ sig) → Buf (Elt Ideal) ℓ)

/-- The kernel's keys are the device's pages, a row to a token. -/
theorem keys_eq (c : Dev nD) : V₁ m c main_v1 = shapeCast S1024x512 (m ((c : Thread nD τ).loc main_arg1)) shapeCasts_S64x16x8x64_S1024x512 := by
  unfold V₁
  after_results
  rfl

/-- So are its values. -/
theorem vals_eq (c : Dev nD) : V₁ m c main_v2 = shapeCast S1024x512 (m ((c : Thread nD τ).loc main_arg2)) shapeCasts_S64x16x8x64_S1024x512 := by
  unfold V₁
  after_results
  rfl

end

/-- What lies below +∞ in size is a real number. -/
theorem finite_of (x : EReal) (h : Ideal.cmp .olt (max x (-x)) (Ideal.ofBits .f32 0x7F800000#32) = 1#1) : ∃ r : ℝ, x = (r : EReal) := by
  have hb : (Ideal.ofBits .f32 0x7F800000#32) = ⊤ := by simp [Ideal.ofBits, Ideal.ieee]
  rw [hb] at h
  induction x with
  | bot => simp [Ideal.cmp] at h
  | top => simp [Ideal.cmp] at h
  | coe r => exact ⟨r, rfl⟩

/-- The precondition, read at an index. -/
theorem usable_reads (q : FVec Ideal Cert.Pre_usable_KernelIdeal.S8x1x8x64 .bf16) (k v : FVec Ideal Cert.Pre_usable_KernelIdeal.S64x16x8x64 .bf16)
    (bt : IVec Cert.Pre_usable_KernelIdeal.S8x64 32) (ln : IVec Cert.Pre_usable_KernelIdeal.S8 32)
    (h1 : (Cert.Pre_usable_KernelIdeal.fn (F := Ideal) q k v bt ln).1 = fun _ => 1#1)
    (h2 : (Cert.Pre_usable_KernelIdeal.fn (F := Ideal) q k v bt ln).2.1 = fun _ => 1#1)
    (h3 : (Cert.Pre_usable_KernelIdeal.fn (F := Ideal) q k v bt ln).2.2.1 = fun _ => 1#1)
    (h4 : (Cert.Pre_usable_KernelIdeal.fn (F := Ideal) q k v bt ln).2.2.2 = fun _ => 1#1) :
    (∀ i, ∃ r : ℝ, q i = (r : EReal)) ∧ (∀ i, ∃ r : ℝ, k i = (r : EReal))
      ∧ (∀ (b : Fin 8) (s : Fin 64), (s.val : Int) < (ln (ix1 b)).toInt → 0 ≤ (bt (ix2 b s)).toInt ∧ (bt (ix2 b s)).toInt < 128)
      ∧ ∀ b : Fin 8, 1 ≤ (ln (ix1 b)).toInt := by
  refine ⟨fun i => finite_of _ (congrFun h1 i), fun i => finite_of _ (congrFun h2 i), fun b s hs => ?_, fun b => ?_⟩
  · have e := congrFun h3 (ix2 b s)
    have e' : IntOp.ori (~~~(IntOp.cmpi .slt (BitVec.ofNat 32 s.val) (ln (ix1 b))))
        (IntOp.andi (IntOp.cmpi .sge (bt (ix2 b s)) 0#32) (IntOp.cmpi .slt (bt (ix2 b s)) 128#32)) = 1#1 := by
      refine Eq.trans ?_ e
      symm
      pointwise [Cert.Pre_usable_KernelIdeal.fn, Cert.Pre_usable_KernelIdeal.fn_part1]
    rw [Cert.KernelIdeal.Value.slt_word, if_pos hs] at e'
    simp only [IntOp.cmpi, BitVec.slt, BitVec.sle] at e'
    by_cases c1 : 0 ≤ (bt (ix2 b s)).toInt <;> by_cases c2 : (bt (ix2 b s)).toInt < 128
    · exact ⟨c1, c2⟩
    all_goals simp [c1, c2, IntOp.ori, IntOp.andi] at e'
  · have e := congrFun h4 (ix1 b)
    have e' : IntOp.cmpi .sge (ln (ix1 b)) 1#32 = 1#1 := e
    simp only [IntOp.cmpi, BitVec.sle] at e'
    by_contra c
    simp [c] at e'

section

open Cert.KernelIdeal Cert.KernelIdeal.Gen Cert.KernelIdeal.Partial

variable (Q : FVec Ideal S8x1x8x64 .bf16) (K V : FVec Ideal Cert.ReferenceIdeal.S128x16x8x64 .bf16) (BT : IVec S8x64 32) (LN : IVec S8 32)

/-- Device `c` holds its part of the arguments: its 64 pages of the cache, and the rest whole. -/
structure Holds (c : Dev nD) (B : Blocks Ideal) : Prop where
  q : B.q = Q
  bt : B.bt = BT
  ln : B.ln = LN
  k : ∀ (p : Fin 64) (t : Fin 16) (h : Fin 8) (e : Fin 64), B.k (ix2 ⟨p.val * 16 + t.val, by omega⟩ ⟨64 * h.val + e.val, by omega⟩)
    = K (ix4 ⟨64 * (c.val / 2) + p.val, by have : c.val < 4 := c.isLt; omega⟩ t h e)
  v : ∀ (p : Fin 64) (t : Fin 16) (h : Fin 8) (e : Fin 64), B.v (ix2 ⟨p.val * 16 + t.val, by omega⟩ ⟨64 * h.val + e.val, by omega⟩)
    = V (ix4 ⟨64 * (c.val / 2) + p.val, by have : c.val < 4 := c.isLt; omega⟩ t h e)

/-- The values of a head at a coordinate, and the column of ones. -/
def valueOf (h : Fin 8) (e : Fin 65) (P : Fin 128) (t : Fin 16) : EReal := if c : e.val < 64 then V (ix4 P t h ⟨e.val, c⟩) else 1

/-- Page `P`'s share of the sums: its tokens' exponentials, weighted by the number of slots in use that name it. -/
def share (a : Fin 128 → Fin 16 → ℝ) (b h : Fin 8) (e : Fin 65) (P : Fin 128) : EReal :=
  ∑ t : Fin 16, Ideal.exp ((a P t : EReal)
    + if 0 < (∑ s : Fin 64, if BT (ix2 b s) = BitVec.ofNat 32 P.val ∧ (s.val : Int) < (LN (ix1 b)).toInt then (1 : EReal) else 0)
      then Ideal.log (∑ s : Fin 64, if BT (ix2 b s) = BitVec.ofNat 32 P.val ∧ (s.val : Int) < (LN (ix1 b)).toInt then (1 : EReal) else 0) else ⊥)
    * valueOf V h e P t

variable {Q K V BT LN}

/-- One device's sums are its pages' shares. -/
theorem own_eq {c : Dev nD} {B : Blocks Ideal} (hB : Holds Q K V BT LN c B) (a : Fin 128 → Fin 16 → ℝ) (b h : Fin 8) (e : Fin 65)
    (ha : ∀ P t, (∑ e : Fin 64, K (ix4 P t h e) * Q (ix4 b 0 h e)) * Ideal.ofBits .f32 0x3E000000#32 = (a P t : EReal)) :
    own c B (ix3 h b e) = ∑ p : Fin 64, share V BT LN a b h e ⟨64 * (c.val / 2) + p.val, by have : c.val < 4 := c.isLt; omega⟩ := by
  rw [Value.own_apply, Fin.sum_univ_tiles 64 16 rfl]
  refine Finset.sum_congr rfl fun p _ => Finset.sum_congr rfl fun t _ => ?_
  have hc : Value.column B ⟨p.val * 16 + t.val, by omega⟩ h e
      = valueOf V h e ⟨64 * (c.val / 2) + p.val, by have : c.val < 4 := c.isLt; omega⟩ t := by
    unfold Value.column valueOf
    by_cases c : e.val < 64
    · rw [dif_pos c, dif_pos c]
      exact hB.v p t h ⟨e.val, c⟩
    · rw [dif_neg c, dif_neg c]
  rw [hc]
  refine congrArg (· * _) ?_
  rw [Value.probs_apply, Value.logWeights_apply, Value.weights_apply, ← ha, hB.q, hB.bt, hB.ln]
  simp only [hB.k]

/-- The two devices' sums are those of the whole cache. -/
theorem both_eq {c : Dev nD} {Bl : Dev nD → Blocks Ideal} (hB : ∀ c, Holds Q K V BT LN c (Bl c)) (a : Fin 128 → Fin 16 → ℝ) (b h : Fin 8)
    (e : Fin 65) (ha : ∀ P t, (∑ e : Fin 64, K (ix4 P t h e) * Q (ix4 b 0 h e)) * Ideal.ofBits .f32 0x3E000000#32 = (a P t : EReal)) :
    own c (Bl c) (ix3 h b e) + own (Protocol.peer c) (Bl (Protocol.peer c)) (ix3 h b e) = ∑ P : Fin 128, share V BT LN a b h e P := by
  rw [own_eq (hB c) a b h e ha, own_eq (hB _) a b h e ha, Fin.sum_univ_two_halves 64 64 rfl]
  have hx : c.val / 2 = 0 ∧ (Protocol.peer c).val / 2 = 1 ∨ c.val / 2 = 1 ∧ (Protocol.peer c).val / 2 = 0 := by revert c; decide
  rcases hx with ⟨h0, h1⟩ | ⟨h1, h0⟩
  · refine congrArg₂ (· + ·) (Finset.sum_congr rfl fun p _ => ?_) (Finset.sum_congr rfl fun p _ => ?_)
    · exact congrArg _ (Fin.ext (by show 64 * (c.val / 2) + p.val = p.val; omega))
    · exact congrArg _ (Fin.ext (by show 64 * ((Protocol.peer c).val / 2) + p.val = 64 + p.val; omega))
  · rw [add_comm]
    refine congrArg₂ (· + ·) (Finset.sum_congr rfl fun p _ => ?_) (Finset.sum_congr rfl fun p _ => ?_)
    · exact congrArg _ (Fin.ext (by show 64 * ((Protocol.peer c).val / 2) + p.val = p.val; omega))
    · exact congrArg _ (Fin.ext (by show 64 * (c.val / 2) + p.val = 64 + p.val; omega))

/-- The kernel's result at an element, as the quotient of the two sums over the slots in use. -/
theorem kernel_apply {c : Dev nD} {Bl : Dev nD → Blocks Ideal} (hB : ∀ c, Holds Q K V BT LN c (Bl c)) (a : Fin 128 → Fin 16 → ℝ) (b h : Fin 8)
    (e : Fin 64) (ha : ∀ P t, (∑ e : Fin 64, K (ix4 P t h e) * Q (ix4 b 0 h e)) * Ideal.ofBits .f32 0x3E000000#32 = (a P t : EReal))
    (pg : Fin 64 → Fin 128)
    (hc : ∀ (P : Fin 128) (s : Fin 64), BT (ix2 b s) = BitVec.ofNat 32 P.val ∧ (s.val : Int) < (LN (ix1 b)).toInt ↔ (s.val : Int) < (LN (ix1 b)).toInt ∧ pg s = P) :
    Body.result Bl c (ix4 b 0 h e) = Ideal.div (total a (fun s => (s.val : Int) < (LN (ix1 b)).toInt) pg fun P t => V (ix4 P t h e))
      (total a (fun s => (s.val : Int) < (LN (ix1 b)).toInt) pg fun _ _ => 1) := by
  unfold Body.result
  rw [Value.combine_apply, both_eq hB a b h _ ha, both_eq hB a b h _ ha]
  refine congrArg₂ Ideal.div ?_ ?_
  · refine Eq.trans ?_ (pages_eq a _ pg (fun P t => V (ix4 P t h e)) _ hc)
    refine Finset.sum_congr rfl fun P _ => Finset.sum_congr rfl fun t _ => congrArg (HMul.hMul _) ?_
    exact dif_pos e.isLt
  · refine Eq.trans ?_ (pages_eq a _ pg (fun _ _ => 1) _ hc)
    refine Finset.sum_congr rfl fun P _ => Finset.sum_congr rfl fun t _ => congrArg (HMul.hMul _) ?_
    exact dif_neg (lt_irrefl 64)

end

section

open Cert.ReferenceIdeal Cert.ReferenceIdeal.Value

/-- The reference's result at an element, as the quotient of the two sums over the slots in use. -/
theorem reference_apply (q : FVec Ideal S8x1x8x64 .bf16) (k v : FVec Ideal S128x16x8x64 .bf16) (bt : IVec S8x64 32) (ln : IVec S8 32)
    (a : Fin 128 → Fin 16 → ℝ) (b h : Fin 8) (e : Fin 64)
    (ha : ∀ P t, (∑ e : Fin 64, k (ix4 P t h e) * q (ix4 b 0 h e)) * Ideal.ofBits .f32 0x3E000000#32 = (a P t : EReal))
    (hs : ∃ s : Fin 64, (s.val : Int) < (ln (ix1 b)).toInt) :
    attend q k v bt ln (ix4 b 0 h e) = Ideal.div (total a (fun s => (s.val : Int) < (ln (ix1 b)).toInt) (page bt b) fun P t => v (ix4 P t h e))
      (total a (fun s => (s.val : Int) < (ln (ix1 b)).toInt) (page bt b) fun _ _ => 1) := by
  let X := scores (used ln) (dots q (gathered k bt))
  have hx : ∀ s t, X (ix4 b h s t) = if (s.val : Int) < (ln (ix1 b)).toInt then (a (page bt b s) t : EReal) else ⊥ := by
    intro s t
    show scores _ _ _ = _
    rw [scores_apply, used_apply, Cert.KernelIdeal.Value.slt_word, dots_apply, ← ha]
    simp only [gathered_apply, mul_comm (q _)]
    by_cases c : (s.val : Int) < (ln (ix1 b)).toInt
    · rw [if_pos c, if_pos c, if_pos rfl]
    · rw [if_neg c, if_neg c, if_neg (by decide)]
  obtain ⟨s₀, hs₀⟩ := hs
  obtain ⟨m, hm⟩ := greatest_real X b h
    (fun s t => by
      rw [hx]
      split
      · exact EReal.coe_ne_top _
      · exact bot_ne_top) s₀ 0 (by rw [hx, if_pos hs₀]; exact EReal.coe_ne_bot _)
  have hp : ∀ s t, powers X (ix4 b h s t) = Ideal.exp ((if (s.val : Int) < (ln (ix1 b)).toInt then (a (page bt b s) t : EReal) else ⊥) - (m : EReal)) := by
    intro s t
    rw [powers_apply, hm, hx]
  have hw : ∀ s t, Host.divf (powers X) (everywhere (sums (powers X))) (ix4 b h s t)
      = Ideal.div (powers X (ix4 b h s t)) (∑ s : Fin 64, ∑ t : Fin 16, powers X (ix4 b h s t)) := by
    intro s t
    show Ideal.div _ _ = _
    rw [everywhere_apply, sums_apply]
  show weighted (Host.divf (powers X) (everywhere (sums (powers X)))) (gathered v bt) _ = _
  rw [weighted_apply, ← softmax_eq a _ (page bt b) m ⟨s₀, hs₀⟩]
  simp only [hw, hp, gathered_apply]

end

/-- Device `c`'s cut of the cache holds the cache's pages from `64 * (c / 2)` on. -/
theorem cut_apply (c : Dev Cert.KernelIdeal.nD) (x : FVec Ideal Cert.ReferenceIdeal.S128x16x8x64 .bf16) (p : Fin 64) (t : Fin 16) (h : Fin 8) (e : Fin 64) :
    Layout.blockN ⟨4, ![64, 16, 8, 64]⟩ ⟨4, ![128, 16, 8, 64]⟩ (Layout.meshBlock [2, 2] ![[0], [], [], []] c) x (by decide) (ix4 p t h e)
      = x (ix4 ⟨64 * (c.val / 2) + p.val, by have : c.val < 4 := c.isLt; omega⟩ t h e) := by
  have hl : ∀ c : Fin 4, Layout.meshLin [2, 2] c.val [0] = c.val / 2 := by decide
  rw [Layout.blockN_apply]
  refine congrArg x (funext fun a => Fin.ext ?_)
  rw [Layout.TilesN.idx_val]
  match a with
  | ⟨0, _⟩ =>
    show Layout.meshLin [2, 2] c.val [0] * 64 + p.val = 64 * (c.val / 2) + p.val
    rw [hl c]
    omega
  | ⟨1, _⟩ => exact (congrArg (· + t.val) (Nat.zero_mul 16)).trans (Nat.zero_add _)
  | ⟨2, _⟩ => exact (congrArg (· + h.val) (Nat.zero_mul 8)).trans (Nat.zero_add _)
  | ⟨3, _⟩ => exact (congrArg (· + e.val) (Nat.zero_mul 64)).trans (Nat.zero_add _)

/-- The scale is a real number. -/
theorem scale_real : ∃ r : ℝ, Ideal.ofBits .f32 0x3E000000#32 = (r : EReal) := by
  refine ⟨1 / 8, ?_⟩
  simp [Ideal.ofBits, Ideal.ieee]
  rw [← EReal.coe_mul]
  norm_num

/-- A scaled dot product of reals is a real number. -/
theorem dot_real (x y : Fin 64 → EReal) (hx : ∀ e, ∃ r : ℝ, x e = (r : EReal)) (hy : ∀ e, ∃ r : ℝ, y e = (r : EReal)) :
    ∃ r : ℝ, (∑ e, x e * y e) * Ideal.ofBits .f32 0x3E000000#32 = (r : EReal) := by
  choose f hf using hx
  choose g hg using hy
  obtain ⟨κ, hκ⟩ := scale_real
  refine ⟨(∑ e, f e * g e) * κ, ?_⟩
  rw [hκ, EReal.coe_mul, coe_sum]
  simp only [hf, hg, EReal.coe_mul]

/-- A slot in use names page `P`, as a word, when the gather takes page `P` for it. -/
theorem names_iff (bt : IVec Cert.ReferenceIdeal.S8x64 32) (b : Fin 8) (s : Fin 64) (h0 : 0 ≤ (bt (ix2 b s)).toInt) (h1 : (bt (ix2 b s)).toInt < 128)
    (P : Fin 128) : bt (ix2 b s) = BitVec.ofNat 32 P.val ↔ Cert.ReferenceIdeal.Value.page bt b s = P := by
  have hP : (BitVec.ofNat 32 P.val).toInt = (P.val : Int) := by
    have := P.isLt
    rw [BitVec.toInt_eq_toNat_of_lt] <;> rw [BitVec.toNat_ofNat] <;> omega
  have hv : (Cert.ReferenceIdeal.Value.page bt b s).val = min (bt (ix2 b s)).toInt.toNat 127 := by
    show min (Cert.ReferenceIdeal.Value.pages bt (ix3 b s 0)).toInt.toNat 127 = _
    rw [Cert.ReferenceIdeal.Value.pages_apply, if_neg (by omega)]
  constructor
  · intro e
    refine Fin.ext ?_
    have := P.isLt
    rw [hv, e, hP]
    omega
  · intro e
    refine BitVec.eq_of_toInt_eq ?_
    rw [hP, ← e, hv]
    omega

open Cert.KernelIdeal.Region in
/-- Every device holds its part of the arguments when the kernel's body begins. -/
theorem blocks_hold (m : (ℓ : Loc Cert.KernelIdeal.nD Cert.KernelIdeal.τ Cert.KernelIdeal.sig) → Buf (Elt Ideal) ℓ)
    (Q : FVec Ideal Cert.KernelIdeal.S8x1x8x64 .bf16) (K V : FVec Ideal Cert.ReferenceIdeal.S128x16x8x64 .bf16)
    (BT : IVec Cert.KernelIdeal.S8x64 32) (LN : IVec Cert.KernelIdeal.S8 32)
    (hq : ∀ c : Dev Cert.KernelIdeal.nD, m ((c : Thread Cert.KernelIdeal.nD Cert.KernelIdeal.τ).loc Cert.KernelIdeal.main_arg0) = Q)
    (hk : ∀ c : Dev Cert.KernelIdeal.nD, m ((c : Thread Cert.KernelIdeal.nD Cert.KernelIdeal.τ).loc Cert.KernelIdeal.main_arg1)
      = Layout.blockN ⟨4, ![64, 16, 8, 64]⟩ ⟨4, ![128, 16, 8, 64]⟩ (Layout.meshBlock [2, 2] ![[0], [], [], []] c) K)
    (hv : ∀ c : Dev Cert.KernelIdeal.nD, m ((c : Thread Cert.KernelIdeal.nD Cert.KernelIdeal.τ).loc Cert.KernelIdeal.main_arg2)
      = Layout.blockN ⟨4, ![64, 16, 8, 64]⟩ ⟨4, ![128, 16, 8, 64]⟩ (Layout.meshBlock [2, 2] ![[0], [], [], []] c) V)
    (hb : ∀ c : Dev Cert.KernelIdeal.nD, m ((c : Thread Cert.KernelIdeal.nD Cert.KernelIdeal.τ).loc Cert.KernelIdeal.main_arg3) = BT)
    (hl : ∀ c : Dev Cert.KernelIdeal.nD, m ((c : Thread Cert.KernelIdeal.nD Cert.KernelIdeal.τ).loc Cert.KernelIdeal.main_arg4) = LN)
    (c : Dev Cert.KernelIdeal.nD) : Holds Q K V BT LN c (blocks m c) where
  q := (Cert.KernelIdeal.Launch.V₁_arg m c _ (by decide) (by decide)).trans (hq c)
  bt := (Cert.KernelIdeal.Launch.V₁_arg m c _ (by decide) (by decide)).trans (hb c)
  ln := (Cert.KernelIdeal.Launch.V₁_arg m c _ (by decide) (by decide)).trans (hl c)
  k := fun p t h e => by
    show V₁ m c Cert.KernelIdeal.main_v1 _ = _
    rw [keys_eq, hk c]
    exact (recast _ _ p t h e).trans (cut_apply c K p t h e)
  v := fun p t h e => by
    show V₁ m c Cert.KernelIdeal.main_v2 _ = _
    rw [vals_eq, hv c]
    exact (recast _ _ p t h e).trans (cut_apply c V p t h e)

/-- The kernel and the reference compute the same array. -/
theorem agree : algebraic_KernelIdeal_ReferenceIdeal_pre_usable_KernelIdeal := by
  intro m g m' g' hpre hargs
  let A (b : Ref Cert.ReferenceIdeal.sig .tc) := m' (((0 : Dev Cert.ReferenceIdeal.nD).tc : Thread Cert.ReferenceIdeal.nD Cert.ReferenceIdeal.τ).loc b)
  let Q : FVec Ideal Cert.KernelIdeal.S8x1x8x64 .bf16 := A Cert.ReferenceIdeal.main_arg0
  let K : FVec Ideal Cert.ReferenceIdeal.S128x16x8x64 .bf16 := A Cert.ReferenceIdeal.main_arg1
  let V : FVec Ideal Cert.ReferenceIdeal.S128x16x8x64 .bf16 := A Cert.ReferenceIdeal.main_arg2
  let BT : IVec Cert.KernelIdeal.S8x64 32 := A Cert.ReferenceIdeal.main_arg3
  let LN : IVec Cert.KernelIdeal.S8 32 := A Cert.ReferenceIdeal.main_arg4
  have hq (c) := (hargs c).1
  have hk (c) := (hargs c).2.1
  have hv (c) := (hargs c).2.2.1
  have hb (c) := (hargs c).2.2.2.1
  have hl (c) := (hargs c).2.2.2.2
  have hB := blocks_hold m Q K V BT LN hq hk hv hb hl
  have hu (c) := usable_reads _ _ _ _ _ (hpre c).1 (hpre c).2.1 (hpre c).2.2.1 (hpre c).2.2.2
  have hQ : ∀ i, ∃ r : ℝ, Q i = (r : EReal) := fun i => by
    have := (hu 0).1 i
    rwa [hq 0] at this
  have hK : ∀ (P : Fin 128) (t : Fin 16) (h : Fin 8) (e : Fin 64), ∃ r : ℝ, K (ix4 P t h e) = (r : EReal) := fun P t h e => by
    have hP := P.isLt
    let c : Dev Cert.KernelIdeal.nD := ⟨2 * (P.val / 64), by show _ < 4; omega⟩
    obtain ⟨r, hr⟩ := (hu c).2.1 (ix4 ⟨P.val % 64, by omega⟩ t h e)
    refine ⟨r, hr ▸ ?_⟩
    rw [hk c]
    refine Eq.trans ?_ (cut_apply c K ⟨P.val % 64, by omega⟩ t h e).symm
    exact congrArg (fun P => K (ix4 P t h e)) (Fin.ext (by show P.val = 64 * (2 * (P.val / 64) / 2) + P.val % 64; omega))
  have hT : ∀ (b : Fin 8) (s : Fin 64), (s.val : Int) < (LN (ix1 b)).toInt → 0 ≤ (BT (ix2 b s)).toInt ∧ (BT (ix2 b s)).toInt < 128 := by
    have := (hu 0).2.2.1
    rwa [hb 0, hl 0] at this
  have hL : ∀ b : Fin 8, 1 ≤ (LN (ix1 b)).toInt := by
    have := (hu 0).2.2.2
    rwa [hl 0] at this
  have key (c : Dev Cert.KernelIdeal.nD) : Cert.KernelIdeal.Body.result (Cert.KernelIdeal.Region.blocks m) c = Cert.ReferenceIdeal.Value.attend Q K V BT LN := by
    funext i
    obtain ⟨b, z, h, e, rfl⟩ : ∃ (b : Fin 8) (z : Fin 1) (h : Fin 8) (e : Fin 64), i = ix4 b z h e := ⟨i 0, i 1, i 2, i 3, by
      funext a
      match a with
      | ⟨0, _⟩ => rfl
      | ⟨1, _⟩ => rfl
      | ⟨2, _⟩ => rfl
      | ⟨3, _⟩ => rfl⟩
    obtain rfl : z = 0 := Subsingleton.elim _ _
    choose a ha using fun (P : Fin 128) (t : Fin 16) =>
      dot_real (fun e => K (ix4 P t h e)) (fun e => Q (ix4 b 0 h e)) (fun e => hK P t h e) (fun e => hQ _)
    refine (kernel_apply hB a b h e ha (Cert.ReferenceIdeal.Value.page BT b) fun P s => ?_).trans
      (reference_apply Q K V BT LN a b h e ha ⟨0, lt_of_lt_of_le (by decide) (hL b)⟩).symm
    constructor
    · exact fun ⟨x, y⟩ => ⟨y, (names_iff BT b s (hT b s y).1 (hT b s y).2 P).mp x⟩
    · exact fun ⟨y, x⟩ => ⟨(names_iff BT b s (hT b s y).1 (hT b s y).2 P).mpr x, y⟩
  refine ⟨Cert.ReferenceIdeal.Value.attend Q K V BT LN, ?_, ?_⟩
  · exact (θ_run _ _ _).mono (fun _ r c => ⟨(r.1 c).1.trans (key c), (r.1 c).2⟩) (Cert.KernelIdeal.Launch.run_main m g)
  · exact (θ_run _ _ _).mono (fun _ r => ⟨(r 0).1.trans (Cert.ReferenceIdeal.Value.res_eq m' 0), (r 0).2⟩) (Cert.ReferenceIdeal.Value.run m' g')

end Cert.Algebraic

end
-- ==== Proof.lean ====
module

public import proofs.«01_k».proof.Defs
public import proofs.«01_k».proof.Proof.Algebraic
public import proofs.«01_k».proof.Proof.KernelLaunch
public import proofs.«01_k».proof.Proof.KernelIdealLaunch
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_usable_KernelIdeal
public import proofs.«01_k».proof.Proof.Gen.Pre_usable_ReferenceIdeal
public import Idealize.ShloMosaic.Adequacy
public import Idealize.ShloMosaic.Init

@[expose] public section

noncomputable section

namespace Cert.Proof

open Idealize.ShloMosaic Idealize.SL.Sem

/-- The kernel as written leaves its arguments and every counter as it found them. -/
theorem frame_kernel : quiescent_Kernel := fun m g _ =>
  (θ_run _ _ _).mono (fun _ h => ⟨fun c => (h.1 c).2, h.2⟩) (Cert.Kernel.Launch.run_main m g)

/-- So does the kernel over the extended reals, from any memory. -/
theorem frame_ideal : quiescent_KernelIdeal := fun m g _ =>
  (θ_run _ _ _).mono (fun _ h => ⟨fun c => (h.1 c).2, h.2⟩) (Cert.KernelIdeal.Launch.run_main m g)

/-- In particular from a memory that satisfies the precondition. -/
theorem frame_ideal_usable : quiescent_KernelIdeal_pre_usable_KernelIdeal := fun m g _ =>
  frame_ideal m g trivial

/-- The reference only computes: it declares no semaphore, and writes no argument. -/
theorem frame_reference : quiescent_ReferenceIdeal := fun m g _ =>
  (θ_run _ _ _).mono (fun r h => ⟨fun c => (h c).2, sem_eq_zero_of_no_sems rfl r.2⟩) (Cert.ReferenceIdeal.Value.run m g)

/-- In particular from a memory that satisfies the precondition. -/
theorem frame_reference_usable : quiescent_ReferenceIdeal_pre_usable_ReferenceIdeal := fun m g _ =>
  frame_reference m g trivial

/-- The only change between the two kernel programs is that the mask value is named. -/
theorem preserves : preserves_Kernel_KernelIdeal := IdealRules.named_const.statement _ _ _ _ _ rfl

theorem claim : Cert.Claim :=
  ⟨Cert.Kernel.Gen.facts, Cert.KernelIdeal.Gen.facts, Cert.ReferenceIdeal.Gen.facts, Cert.Pre_usable_KernelIdeal.Gen.facts,
    Cert.Pre_usable_ReferenceIdeal.Gen.facts, frame_kernel, frame_ideal, frame_ideal_usable, frame_reference,
    frame_reference_usable, preserves, Cert.Algebraic.agree⟩

end Cert.Proof

end
